-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13_0)) (v2 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_v13_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_v212) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16x64x64 : Shape := ⟨4, ![4, 16, 64, 64]⟩
abbrev S4x1x64x64 : Shape := ⟨4, ![4, 1, 64, 64]⟩
abbrev S4x96x512x512 : Shape := ⟨4, ![4, 96, 512, 512]⟩
abbrev S16x96 : Shape := ⟨2, ![16, 96]⟩
abbrev S16 : Shape := ⟨1, ![16]⟩
abbrev S32x33 : Shape := ⟨2, ![32, 33]⟩
abbrev S32 : Shape := ⟨1, ![32]⟩
abbrev S32x1x3x3 : Shape := ⟨4, ![32, 1, 3, 3]⟩
abbrev S4x32 : Shape := ⟨2, ![4, 32]⟩
abbrev S4 : Shape := ⟨1, ![4]⟩
abbrev S64x512 : Shape := ⟨2, ![64, 512]⟩
abbrev S4x96x64x64 : Shape := ⟨4, ![4, 96, 64, 64]⟩
abbrev S1x96x64x512 : Shape := ⟨4, ![1, 96, 64, 512]⟩
abbrev S1x96x8x64 : Shape := ⟨4, ![1, 96, 8, 64]⟩
abbrev S96x64x512 : Shape := ⟨3, ![96, 64, 512]⟩
abbrev S768x8x512 : Shape := ⟨3, ![768, 8, 512]⟩
abbrev S768x512 : Shape := ⟨2, ![768, 512]⟩
abbrev S512x768 : Shape := ⟨2, ![512, 768]⟩
abbrev S64x8x768 : Shape := ⟨3, ![64, 8, 768]⟩
abbrev S64x768 : Shape := ⟨2, ![64, 768]⟩
abbrev S768x64 : Shape := ⟨2, ![768, 64]⟩
abbrev S96x8x64 : Shape := ⟨3, ![96, 8, 64]⟩
abbrev S32x9 : Shape := ⟨2, ![32, 9]⟩
abbrev S4x16x4096 : Shape := ⟨3, ![4, 16, 4096]⟩
abbrev S4x1x4096 : Shape := ⟨3, ![4, 1, 4096]⟩
abbrev S4x96x4096 : Shape := ⟨3, ![4, 96, 4096]⟩
abbrev S16x1 : Shape := ⟨2, ![16, 1]⟩
abbrev S32x1 : Shape := ⟨2, ![32, 1]⟩
abbrev S4x1 : Shape := ⟨2, ![4, 1]⟩
abbrev S4x4x4096 : Shape := ⟨3, ![4, 4, 4096]⟩
abbrev S1x16x4096 : Shape := ⟨3, ![1, 16, 4096]⟩
abbrev S1x1x4096 : Shape := ⟨3, ![1, 1, 4096]⟩
abbrev S1x96x4096 : Shape := ⟨3, ![1, 96, 4096]⟩
abbrev S1x4x4096 : Shape := ⟨3, ![1, 4, 4096]⟩
abbrev S96x4096 : Shape := ⟨2, ![96, 4096]⟩
abbrev S16x4096 : Shape := ⟨2, ![16, 4096]⟩
abbrev S1x4096 : Shape := ⟨2, ![1, 4096]⟩
abbrev S33x4096 : Shape := ⟨2, ![33, 4096]⟩
abbrev S32x4096 : Shape := ⟨2, ![32, 4096]⟩
abbrev S32x128 : Shape := ⟨2, ![32, 128]⟩
abbrev S32x4352 : Shape := ⟨2, ![32, 4352]⟩
abbrev S4x4096 : Shape := ⟨2, ![4, 4096]⟩
abbrev S4096 : Shape := ⟨1, ![4096]⟩
abbrev S4x4x64x64 : Shape := ⟨4, ![4, 4, 64, 64]⟩
abbrev S4x4x512x512 : Shape := ⟨4, ![4, 4, 512, 512]⟩
abbrev S4x1x512x512 : Shape := ⟨4, ![4, 1, 512, 512]⟩
abbrev S1x4x64x64 : Shape := ⟨4, ![1, 4, 64, 64]⟩
abbrev S1x1x64x64 : Shape := ⟨4, ![1, 1, 64, 64]⟩
abbrev S1x4x512x512 : Shape := ⟨4, ![1, 4, 512, 512]⟩
abbrev S1x1x512x512 : Shape := ⟨4, ![1, 1, 512, 512]⟩
abbrev S64x64 : Shape := ⟨2, ![64, 64]⟩
abbrev S64x1x512 : Shape := ⟨3, ![64, 1, 512]⟩
abbrev S64x8x512 : Shape := ⟨3, ![64, 8, 512]⟩
abbrev S512x512 : Shape := ⟨2, ![512, 512]⟩

abbrev nBuf : Space → Nat
  | .hbm => 27
  | .vmem => 29
  | .smem => 0
  | _ => 0

abbrev bufTy : (tb : Table) → Fin (tcTables nBuf tb) → BufTy
  | .hbm, ⟨0, _⟩ => ⟨S4x16x64x64, .f32⟩
  | .hbm, ⟨1, _⟩ => ⟨S4x1x64x64, .f32⟩
  | .hbm, ⟨2, _⟩ => ⟨S4x96x512x512, .f32⟩
  | .hbm, ⟨3, _⟩ => ⟨S16x96, .f32⟩
  | .hbm, ⟨4, _⟩ => ⟨S16, .f32⟩
  | .hbm, ⟨5, _⟩ => ⟨S32x33, .f32⟩
  | .hbm, ⟨6, _⟩ => ⟨S32, .f32⟩
  | .hbm, ⟨7, _⟩ => ⟨S32x1x3x3, .f32⟩
  | .hbm, ⟨8, _⟩ => ⟨S32, .f32⟩
  | .hbm, ⟨9, _⟩ => ⟨S4x32, .f32⟩
  | .hbm, ⟨10, _⟩ => ⟨S4, .f32⟩
  | .hbm, ⟨11, _⟩ => ⟨S64x512, .f32⟩
  | .hbm, ⟨12, _⟩ => ⟨S4x96x64x64, .f32⟩
  | .hbm, ⟨13, _⟩ => ⟨S32x9, .f32⟩
  | .hbm, ⟨14, _⟩ => ⟨S32x9, .bf16⟩
  | .hbm, ⟨15, _⟩ => ⟨S32x9, .f32⟩
  | .hbm, ⟨16, _⟩ => ⟨S4x16x4096, .f32⟩
  | .hbm, ⟨17, _⟩ => ⟨S4x1x4096, .f32⟩
  | .hbm, ⟨18, _⟩ => ⟨S4x96x4096, .f32⟩
  | .hbm, ⟨19, _⟩ => ⟨S16x1, .f32⟩
  | .hbm, ⟨20, _⟩ => ⟨S32x1, .f32⟩
  | .hbm, ⟨21, _⟩ => ⟨S32x1, .f32⟩
  | .hbm, ⟨22, _⟩ => ⟨S4x1, .f32⟩
  | .hbm, ⟨23, _⟩ => ⟨S4x4x4096, .f32⟩
  | .hbm, ⟨24, _⟩ => ⟨S4x4x64x64, .f32⟩
  | .hbm, ⟨25, _⟩ => ⟨S4x4x512x512, .f32⟩
  | .hbm, ⟨26, _⟩ => ⟨S4x1x512x512, .f32⟩
  | .local _ .vmem, ⟨0, _⟩ => ⟨S1x96x64x512, .f32⟩
  | .local _ .vmem, ⟨1, _⟩ => ⟨S1x96x64x512, .f32⟩
  | .local _ .vmem, ⟨2, _⟩ => ⟨S1x96x8x64, .f32⟩
  | .local _ .vmem, ⟨3, _⟩ => ⟨S1x96x8x64, .f32⟩
  | .local _ .vmem, ⟨4, _⟩ => ⟨S1x16x4096, .f32⟩
  | .local _ .vmem, ⟨5, _⟩ => ⟨S1x16x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x96x4096, .f32⟩
  | .local _ .vmem, ⟨9, _⟩ => ⟨S1x96x4096, .f32⟩
  | .local _ .vmem, ⟨10, _⟩ => ⟨S16x96, .f32⟩
  | .local _ .vmem, ⟨11, _⟩ => ⟨S16x1, .f32⟩
  | .local _ .vmem, ⟨12, _⟩ => ⟨S32x33, .f32⟩
  | .local _ .vmem, ⟨13, _⟩ => ⟨S32x1, .f32⟩
  | .local _ .vmem, ⟨14, _⟩ => ⟨S32x9, .f32⟩
  | .local _ .vmem, ⟨15, _⟩ => ⟨S32x1, .f32⟩
  | .local _ .vmem, ⟨16, _⟩ => ⟨S4x32, .f32⟩
  | .local _ .vmem, ⟨17, _⟩ => ⟨S4x1, .f32⟩
  | .local _ .vmem, ⟨18, _⟩ => ⟨S1x4x4096, .f32⟩
  | .local _ .vmem, ⟨19, _⟩ => ⟨S1x4x4096, .f32⟩
  | .local _ .vmem, ⟨20, _⟩ => ⟨S1x4x64x64, .f32⟩
  | .local _ .vmem, ⟨21, _⟩ => ⟨S1x4x64x64, .f32⟩
  | .local _ .vmem, ⟨22, _⟩ => ⟨S1x1x64x64, .f32⟩
  | .local _ .vmem, ⟨23, _⟩ => ⟨S1x1x64x64, .f32⟩
  | .local _ .vmem, ⟨24, _⟩ => ⟨S64x512, .f32⟩
  | .local _ .vmem, ⟨25, _⟩ => ⟨S1x4x512x512, .f32⟩
  | .local _ .vmem, ⟨26, _⟩ => ⟨S1x4x512x512, .f32⟩
  | .local _ .vmem, ⟨27, _⟩ => ⟨S1x1x512x512, .f32⟩
  | .local _ .vmem, ⟨28, _⟩ => ⟨S1x1x512x512, .f32⟩
  | _, _ => ⟨S4x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg11_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem11_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x96x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x33 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x9 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1x4x4096 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![4], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x4x64x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x64x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x4x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S4x16x64x64 : Shape := ⟨4, ![4, 16, 64, 64]⟩
abbrev S4x1x64x64 : Shape := ⟨4, ![4, 1, 64, 64]⟩
abbrev S4x96x512x512 : Shape := ⟨4, ![4, 96, 512, 512]⟩
abbrev S16x96 : Shape := ⟨2, ![16, 96]⟩
abbrev S16 : Shape := ⟨1, ![16]⟩
abbrev S32x33 : Shape := ⟨2, ![32, 33]⟩
abbrev S32 : Shape := ⟨1, ![32]⟩
abbrev S32x1x3x3 : Shape := ⟨4, ![32, 1, 3, 3]⟩
abbrev S4x32 : Shape := ⟨2, ![4, 32]⟩
abbrev S4 : Shape := ⟨1, ![4]⟩
abbrev S4x96x64x8x64x8 : Shape := ⟨6, ![4, 96, 64, 8, 64, 8]⟩
abbrev S_ : Shape := ⟨0, ![]⟩
abbrev S4x96x64x64 : Shape := ⟨4, ![4, 96, 64, 64]⟩
abbrev S16x4x64x64 : Shape := ⟨4, ![16, 4, 64, 64]⟩
abbrev S1x16x1x1 : Shape := ⟨4, ![1, 16, 1, 1]⟩
abbrev S4x33x64x64 : Shape := ⟨4, ![4, 33, 64, 64]⟩
abbrev S32x4x64x64 : Shape := ⟨4, ![32, 4, 64, 64]⟩
abbrev S4x32x64x64 : Shape := ⟨4, ![4, 32, 64, 64]⟩
abbrev S1x32x1x1 : Shape := ⟨4, ![1, 32, 1, 1]⟩
abbrev S4x32x66x66 : Shape := ⟨4, ![4, 32, 66, 66]⟩
abbrev S32x1x1x1 : Shape := ⟨4, ![32, 1, 1, 1]⟩
abbrev S4x4x64x64 : Shape := ⟨4, ![4, 4, 64, 64]⟩
abbrev S1x4x1x1 : Shape := ⟨4, ![1, 4, 1, 1]⟩
abbrev S4x64x64x4 : Shape := ⟨4, ![4, 64, 64, 4]⟩
abbrev S4x64x64x2 : Shape := ⟨4, ![4, 64, 64, 2]⟩
abbrev S4x64x64x2x1 : Shape := ⟨5, ![4, 64, 64, 2, 1]⟩
abbrev S1x1x1x1x4 : Shape := ⟨5, ![1, 1, 1, 1, 4]⟩
abbrev S4x64x64x2x4 : Shape := ⟨5, ![4, 64, 64, 2, 4]⟩
abbrev S4x64x64 : Shape := ⟨3, ![4, 64, 64]⟩
abbrev S4x64x64x1 : Shape := ⟨4, ![4, 64, 64, 1]⟩
abbrev S4x4x64x8x64 : Shape := ⟨5, ![4, 4, 64, 8, 64]⟩
abbrev S4x4x512x64 : Shape := ⟨4, ![4, 4, 512, 64]⟩
abbrev S4x4x512x64x8 : Shape := ⟨5, ![4, 4, 512, 64, 8]⟩
abbrev S4x4x512x512 : Shape := ⟨4, ![4, 4, 512, 512]⟩
abbrev S4x1x64x8x64 : Shape := ⟨5, ![4, 1, 64, 8, 64]⟩
abbrev S4x1x512x64 : Shape := ⟨4, ![4, 1, 512, 64]⟩
abbrev S4x1x512x64x8 : Shape := ⟨5, ![4, 1, 512, 64, 8]⟩
abbrev S4x1x512x512 : Shape := ⟨4, ![4, 1, 512, 512]⟩

abbrev nBuf : Space → Nat
  | .hbm => 281
  | .vmem => 0
  | .smem => 0
  | _ => 0

abbrev hbmTy0_0 (i : Nat) : BufTy := match i % 128 with
  | 0 => ⟨S4x16x64x64, .f32⟩
  | 1 => ⟨S4x1x64x64, .f32⟩
  | 2 => ⟨S4x96x512x512, .f32⟩
  | 3 => ⟨S16x96, .f32⟩
  | 4 => ⟨S16, .f32⟩
  | 5 => ⟨S32x33, .f32⟩
  | 6 => ⟨S32, .f32⟩
  | 7 => ⟨S32x1x3x3, .f32⟩
  | 8 => ⟨S32, .f32⟩
  | 9 => ⟨S4x32, .f32⟩
  | 10 => ⟨S4, .f32⟩
  | 11 => ⟨S4x96x64x8x64x8, .f32⟩
  | 12 => ⟨S_, .f32⟩
  | 13 => ⟨S4x96x64x64, .f32⟩
  | 14 => ⟨S_, .f32⟩
  | 15 => ⟨S4x96x64x64, .f32⟩
  | 16 => ⟨S4x96x64x64, .f32⟩
  | 17 => ⟨S16x4x64x64, .f32⟩
  | 18 => ⟨S4x16x64x64, .f32⟩
  | 19 => ⟨S1x16x1x1, .f32⟩
  | 20 => ⟨S4x16x64x64, .f32⟩
  | 21 => ⟨S4x16x64x64, .f32⟩
  | 22 => ⟨S4x33x64x64, .f32⟩
  | 23 => ⟨S32x4x64x64, .f32⟩
  | 24 => ⟨S4x32x64x64, .f32⟩
  | 25 => ⟨S1x32x1x1, .f32⟩
  | 26 => ⟨S4x32x64x64, .f32⟩
  | 27 => ⟨S4x32x64x64, .f32⟩
  | 28 => ⟨S_, .f32⟩
  | 29 => ⟨S4x32x64x64, .f32⟩
  | 30 => ⟨S4x32x64x64, .f32⟩
  | 31 => ⟨S4x32x64x64, .f32⟩
  | 32 => ⟨S_, .f32⟩
  | 33 => ⟨S4x32x64x64, .f32⟩
  | 34 => ⟨S4x32x64x64, .f32⟩
  | 35 => ⟨S4x32x64x64, .f32⟩
  | 36 => ⟨S4x32x64x64, .f32⟩
  | 37 => ⟨S_, .f32⟩
  | 38 => ⟨S4x32x64x64, .f32⟩
  | 39 => ⟨S4x32x64x64, .f32⟩
  | 40 => ⟨S_, .f32⟩
  | 41 => ⟨S4x32x64x64, .f32⟩
  | 42 => ⟨S4x32x64x64, .f32⟩
  | 43 => ⟨S_, .f32⟩
  | 44 => ⟨S4x32x64x64, .f32⟩
  | 45 => ⟨S4x32x64x64, .f32⟩
  | 46 => ⟨S4x32x64x64, .f32⟩
  | 47 => ⟨S_, .f32⟩
  | 48 => ⟨S4x32x64x64, .f32⟩
  | 49 => ⟨S4x32x64x64, .f32⟩
  | 50 => ⟨S4x32x64x64, .f32⟩
  | 51 => ⟨S_, .f32⟩
  | 52 => ⟨S4x32x64x64, .f32⟩
  | 53 => ⟨S4x32x64x64, .f32⟩
  | 54 => ⟨S4x32x64x64, .f32⟩
  | 55 => ⟨S_, .f32⟩
  | 56 => ⟨S4x32x64x64, .f32⟩
  | 57 => ⟨S4x32x64x64, .f32⟩
  | 58 => ⟨S4x32x64x64, .f32⟩
  | 59 => ⟨S_, .f32⟩
  | 60 => ⟨S4x32x64x64, .f32⟩
  | 61 => ⟨S4x32x64x64, .f32⟩
  | 62 => ⟨S4x32x64x64, .f32⟩
  | 63 => ⟨S_, .f32⟩
  | 64 => ⟨S4x32x64x64, .f32⟩
  | 65 => ⟨S4x32x64x64, .f32⟩
  | 66 => ⟨S4x32x64x64, .f32⟩
  | 67 => ⟨S_, .f32⟩
  | 68 => ⟨S4x32x64x64, .f32⟩
  | 69 => ⟨S4x32x64x64, .f32⟩
  | 70 => ⟨S_, .f32⟩
  | 71 => ⟨S4x32x64x64, .f32⟩
  | 72 => ⟨S4x32x64x64, .i1⟩
  | 73 => ⟨S_, .f32⟩
  | 74 => ⟨S4x32x64x64, .f32⟩
  | 75 => ⟨S4x32x64x64, .f32⟩
  | 76 => ⟨S_, .f32⟩
  | 77 => ⟨S4x32x64x64, .f32⟩
  | 78 => ⟨S4x32x64x64, .f32⟩
  | 79 => ⟨S_, .f32⟩
  | 80 => ⟨S4x32x64x64, .f32⟩
  | 81 => ⟨S4x32x64x64, .f32⟩
  | 82 => ⟨S4x32x64x64, .f32⟩
  | 83 => ⟨S_, .f32⟩
  | 84 => ⟨S4x32x64x64, .f32⟩
  | 85 => ⟨S4x32x64x64, .f32⟩
  | 86 => ⟨S4x32x64x64, .f32⟩
  | 87 => ⟨S_, .f32⟩
  | 88 => ⟨S4x32x64x64, .f32⟩
  | 89 => ⟨S4x32x64x64, .f32⟩
  | 90 => ⟨S4x32x64x64, .f32⟩
  | 91 => ⟨S_, .f32⟩
  | 92 => ⟨S4x32x64x64, .f32⟩
  | 93 => ⟨S4x32x64x64, .f32⟩
  | 94 => ⟨S4x32x64x64, .f32⟩
  | 95 => ⟨S_, .f32⟩
  | 96 => ⟨S4x32x64x64, .f32⟩
  | 97 => ⟨S4x32x64x64, .f32⟩
  | 98 => ⟨S4x32x64x64, .f32⟩
  | 99 => ⟨S_, .f32⟩
  | 100 => ⟨S4x32x64x64, .f32⟩
  | 101 => ⟨S4x32x64x64, .f32⟩
  | 102 => ⟨S4x32x64x64, .f32⟩
  | 103 => ⟨S_, .f32⟩
  | 104 => ⟨S4x32x64x64, .f32⟩
  | 105 => ⟨S4x32x64x64, .f32⟩
  | 106 => ⟨S4x32x64x64, .f32⟩
  | 107 => ⟨S_, .f32⟩
  | 108 => ⟨S4x32x64x64, .f32⟩
  | 109 => ⟨S4x32x64x64, .f32⟩
  | 110 => ⟨S4x32x64x64, .f32⟩
  | 111 => ⟨S_, .f32⟩
  | 112 => ⟨S4x32x64x64, .f32⟩
  | 113 => ⟨S4x32x64x64, .i1⟩
  | 114 => ⟨S4x32x64x64, .f32⟩
  | 115 => ⟨S4x32x64x64, .f32⟩
  | 116 => ⟨S4x32x64x64, .f32⟩
  | 117 => ⟨S4x32x64x64, .f32⟩
  | 118 => ⟨S_, .i32⟩
  | 119 => ⟨S_, .f32⟩
  | 120 => ⟨S4x32x64x64, .f32⟩
  | 121 => ⟨S4x32x64x64, .f32⟩
  | 122 => ⟨S_, .f32⟩
  | 123 => ⟨S4x32x64x64, .f32⟩
  | 124 => ⟨S4x32x64x64, .i1⟩
  | 125 => ⟨S_, .f32⟩
  | 126 => ⟨S4x32x64x64, .f32⟩
  | 127 => ⟨S4x32x64x64, .f32⟩
  | _ => ⟨S4x16x64x64, .f32⟩

abbrev hbmTy0_1 (i : Nat) : BufTy := match i % 128 with
  | 0 => ⟨S4x32x64x64, .f32⟩
  | 1 => ⟨S_, .f32⟩
  | 2 => ⟨S4x32x64x64, .f32⟩
  | 3 => ⟨S4x32x64x64, .i1⟩
  | 4 => ⟨S_, .f32⟩
  | 5 => ⟨S4x32x64x64, .f32⟩
  | 6 => ⟨S4x32x64x64, .f32⟩
  | 7 => ⟨S_, .f32⟩
  | 8 => ⟨S4x32x64x64, .f32⟩
  | 9 => ⟨S4x32x64x64, .f32⟩
  | 10 => ⟨S4x32x64x64, .f32⟩
  | 11 => ⟨S_, .f32⟩
  | 12 => ⟨S4x32x64x64, .f32⟩
  | 13 => ⟨S4x32x64x64, .f32⟩
  | 14 => ⟨S4x32x64x64, .f32⟩
  | 15 => ⟨S_, .f32⟩
  | 16 => ⟨S4x32x64x64, .f32⟩
  | 17 => ⟨S4x32x64x64, .f32⟩
  | 18 => ⟨S4x32x64x64, .f32⟩
  | 19 => ⟨S_, .f32⟩
  | 20 => ⟨S4x32x64x64, .f32⟩
  | 21 => ⟨S4x32x64x64, .f32⟩
  | 22 => ⟨S4x32x64x64, .f32⟩
  | 23 => ⟨S_, .f32⟩
  | 24 => ⟨S4x32x64x64, .f32⟩
  | 25 => ⟨S4x32x64x64, .f32⟩
  | 26 => ⟨S4x32x64x64, .f32⟩
  | 27 => ⟨S_, .f32⟩
  | 28 => ⟨S4x32x64x64, .f32⟩
  | 29 => ⟨S4x32x64x64, .f32⟩
  | 30 => ⟨S4x32x64x64, .f32⟩
  | 31 => ⟨S_, .f32⟩
  | 32 => ⟨S4x32x64x64, .f32⟩
  | 33 => ⟨S4x32x64x64, .f32⟩
  | 34 => ⟨S4x32x64x64, .f32⟩
  | 35 => ⟨S4x32x64x64, .f32⟩
  | 36 => ⟨S_, .i32⟩
  | 37 => ⟨S_, .f32⟩
  | 38 => ⟨S4x32x66x66, .f32⟩
  | 39 => ⟨S32x1x1x1, .f32⟩
  | 40 => ⟨S32, .f32⟩
  | 41 => ⟨S1x32x1x1, .f32⟩
  | 42 => ⟨S4x32x64x64, .f32⟩
  | 43 => ⟨S4x32x64x64, .f32⟩
  | 44 => ⟨S4x32x64x64, .f32⟩
  | 45 => ⟨S_, .f32⟩
  | 46 => ⟨S4x32x64x64, .f32⟩
  | 47 => ⟨S4x32x64x64, .f32⟩
  | 48 => ⟨S32x1x1x1, .f32⟩
  | 49 => ⟨S32, .f32⟩
  | 50 => ⟨S1x32x1x1, .f32⟩
  | 51 => ⟨S4x32x64x64, .f32⟩
  | 52 => ⟨S4x32x64x64, .f32⟩
  | 53 => ⟨S4x32x64x64, .f32⟩
  | 54 => ⟨S4x32x64x64, .f32⟩
  | 55 => ⟨S32x1x1x1, .f32⟩
  | 56 => ⟨S32, .f32⟩
  | 57 => ⟨S1x32x1x1, .f32⟩
  | 58 => ⟨S4x32x64x64, .f32⟩
  | 59 => ⟨S4x32x64x64, .f32⟩
  | 60 => ⟨S4x32x64x64, .f32⟩
  | 61 => ⟨S4x32x64x64, .f32⟩
  | 62 => ⟨S32x1x1x1, .f32⟩
  | 63 => ⟨S32, .f32⟩
  | 64 => ⟨S1x32x1x1, .f32⟩
  | 65 => ⟨S4x32x64x64, .f32⟩
  | 66 => ⟨S4x32x64x64, .f32⟩
  | 67 => ⟨S4x32x64x64, .f32⟩
  | 68 => ⟨S4x32x64x64, .f32⟩
  | 69 => ⟨S32x1x1x1, .f32⟩
  | 70 => ⟨S32, .f32⟩
  | 71 => ⟨S1x32x1x1, .f32⟩
  | 72 => ⟨S4x32x64x64, .f32⟩
  | 73 => ⟨S4x32x64x64, .f32⟩
  | 74 => ⟨S4x32x64x64, .f32⟩
  | 75 => ⟨S4x32x64x64, .f32⟩
  | 76 => ⟨S32x1x1x1, .f32⟩
  | 77 => ⟨S32, .f32⟩
  | 78 => ⟨S1x32x1x1, .f32⟩
  | 79 => ⟨S4x32x64x64, .f32⟩
  | 80 => ⟨S4x32x64x64, .f32⟩
  | 81 => ⟨S4x32x64x64, .f32⟩
  | 82 => ⟨S4x32x64x64, .f32⟩
  | 83 => ⟨S32x1x1x1, .f32⟩
  | 84 => ⟨S32, .f32⟩
  | 85 => ⟨S1x32x1x1, .f32⟩
  | 86 => ⟨S4x32x64x64, .f32⟩
  | 87 => ⟨S4x32x64x64, .f32⟩
  | 88 => ⟨S4x32x64x64, .f32⟩
  | 89 => ⟨S4x32x64x64, .f32⟩
  | 90 => ⟨S32x1x1x1, .f32⟩
  | 91 => ⟨S32, .f32⟩
  | 92 => ⟨S1x32x1x1, .f32⟩
  | 93 => ⟨S4x32x64x64, .f32⟩
  | 94 => ⟨S4x32x64x64, .f32⟩
  | 95 => ⟨S4x32x64x64, .f32⟩
  | 96 => ⟨S4x32x64x64, .f32⟩
  | 97 => ⟨S32x1x1x1, .f32⟩
  | 98 => ⟨S32, .f32⟩
  | 99 => ⟨S1x32x1x1, .f32⟩
  | 100 => ⟨S4x32x64x64, .f32⟩
  | 101 => ⟨S4x32x64x64, .f32⟩
  | 102 => ⟨S4x32x64x64, .f32⟩
  | 103 => ⟨S4x32x64x64, .f32⟩
  | 104 => ⟨S1x32x1x1, .f32⟩
  | 105 => ⟨S4x32x64x64, .f32⟩
  | 106 => ⟨S4x32x64x64, .f32⟩
  | 107 => ⟨S4x4x64x64, .f32⟩
  | 108 => ⟨S4x4x64x64, .f32⟩
  | 109 => ⟨S1x4x1x1, .f32⟩
  | 110 => ⟨S4x4x64x64, .f32⟩
  | 111 => ⟨S4x4x64x64, .f32⟩
  | 112 => ⟨S4x64x64x4, .f32⟩
  | 113 => ⟨S4x64x64x2, .f32⟩
  | 114 => ⟨S4x64x64x2, .i32⟩
  | 115 => ⟨S4x64x64x2x1, .i32⟩
  | 116 => ⟨S1x1x1x1x4, .i32⟩
  | 117 => ⟨S4x64x64x2x4, .i32⟩
  | 118 => ⟨S4x64x64x2x4, .i32⟩
  | 119 => ⟨S4x64x64x2x4, .i1⟩
  | 120 => ⟨S4x64x64x2x4, .f32⟩
  | 121 => ⟨S_, .f32⟩
  | 122 => ⟨S4x64x64x4, .f32⟩
  | 123 => ⟨S_, .f32⟩
  | 124 => ⟨S4x64x64x4, .f32⟩
  | 125 => ⟨S4x64x64x4, .i1⟩
  | 126 => ⟨S_, .f32⟩
  | 127 => ⟨S_, .f32⟩
  | _ => ⟨S4x16x64x64, .f32⟩

abbrev hbmTy0_2 (i : Nat) : BufTy := match i % 128 with
  | 0 => ⟨S4x64x64x4, .f32⟩
  | 1 => ⟨S4x64x64x4, .f32⟩
  | 2 => ⟨S_, .f32⟩
  | 3 => ⟨S4x64x64, .f32⟩
  | 4 => ⟨S_, .f32⟩
  | 5 => ⟨S4x64x64, .f32⟩
  | 6 => ⟨S4x64x64, .f32⟩
  | 7 => ⟨S4x64x64x1, .f32⟩
  | 8 => ⟨S4x64x64x4, .f32⟩
  | 9 => ⟨S4x64x64x4, .f32⟩
  | 10 => ⟨S4x64x64x4, .f32⟩
  | 11 => ⟨S_, .f32⟩
  | 12 => ⟨S4x64x64, .f32⟩
  | 13 => ⟨S4x64x64x1, .f32⟩
  | 14 => ⟨S4x64x64x4, .f32⟩
  | 15 => ⟨S4x64x64x4, .f32⟩
  | 16 => ⟨S4x4x64x64, .f32⟩
  | 17 => ⟨S4x4x64x8x64, .f32⟩
  | 18 => ⟨S4x4x512x64, .f32⟩
  | 19 => ⟨S4x4x512x64x8, .f32⟩
  | 20 => ⟨S4x4x512x512, .f32⟩
  | 21 => ⟨S4x1x64x8x64, .f32⟩
  | 22 => ⟨S4x1x512x64, .f32⟩
  | 23 => ⟨S4x1x512x64x8, .f32⟩
  | 24 => ⟨S4x1x512x512, .f32⟩
  | _ => ⟨S4x16x64x64, .f32⟩

abbrev hbmTy (i : Nat) : BufTy := match i / 128 with
  | 0 => hbmTy0_0 i
  | 1 => hbmTy0_1 i
  | 2 => hbmTy0_2 i
  | _ => ⟨S4x16x64x64, .f32⟩

abbrev bufTy : (tb : Table) → Fin (tcTables nBuf tb) → BufTy
  | .hbm, ⟨i, _⟩ => hbmTy i
  | _, _ => ⟨S4x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_11 : Ref sig .tc := ⟨.hbm, 67, rfl⟩
abbrev main_v44 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_cst_14 : Ref sig .tc := ⟨.hbm, 76, rfl⟩
abbrev main_v50 : Ref sig .tc := ⟨.hbm, 77, rfl⟩
abbrev main_v51 : Ref sig .tc := ⟨.hbm, 78, rfl⟩
abbrev main_cst_15 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_16 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_17 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_18 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_19 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_20 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_21 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_22 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_23 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c : Ref sig .tc := ⟨.hbm, 118, rfl⟩
abbrev main_call1_v0 : Ref sig .tc := ⟨.hbm, 119, rfl⟩
abbrev main_call1_v1 : Ref sig .tc := ⟨.hbm, 120, rfl⟩
abbrev main_v82 : Ref sig .tc := ⟨.hbm, 121, rfl⟩
abbrev main_cst_24 : Ref sig .tc := ⟨.hbm, 122, rfl⟩
abbrev main_v83 : Ref sig .tc := ⟨.hbm, 123, rfl⟩
abbrev main_v84 : Ref sig .tc := ⟨.hbm, 124, rfl⟩
abbrev main_cst_25 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_26 : Ref sig .tc := ⟨.hbm, 129, rfl⟩
abbrev main_v88 : Ref sig .tc := ⟨.hbm, 130, rfl⟩
abbrev main_v89 : Ref sig .tc := ⟨.hbm, 131, rfl⟩
abbrev main_cst_27 : Ref sig .tc := ⟨.hbm, 132, rfl⟩
abbrev main_v90 : Ref sig .tc := ⟨.hbm, 133, rfl⟩
abbrev main_v91 : Ref sig .tc := ⟨.hbm, 134, rfl⟩
abbrev main_cst_28 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_29 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_30 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_31 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_32 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_33 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_34 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_c_35 : Ref sig .tc := ⟨.hbm, 164, rfl⟩
abbrev main_call4_v0 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_36 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_values : Ref sig .tc := ⟨.hbm, 241, rfl⟩
abbrev main_indices : Ref sig .tc := ⟨.hbm, 242, rfl⟩
abbrev main_call5_v0 : Ref sig .tc := ⟨.hbm, 243, rfl⟩
abbrev main_call5_v1 : Ref sig .tc := ⟨.hbm, 244, rfl⟩
abbrev main_call5_v2 : Ref sig .tc := ⟨.hbm, 245, rfl⟩
abbrev main_call5_v3 : Ref sig .tc := ⟨.hbm, 246, rfl⟩
abbrev main_call5_v4 : Ref sig .tc := ⟨.hbm, 247, rfl⟩
abbrev main_v188 : Ref sig .tc := ⟨.hbm, 248, rfl⟩
abbrev main_cst_37 : Ref sig .tc := ⟨.hbm, 249, rfl⟩
abbrev main_v189 : Ref sig .tc := ⟨.hbm, 250, rfl⟩
abbrev main_cst_38 : Ref sig .tc := ⟨.hbm, 251, rfl⟩
abbrev main_v190 : Ref sig .tc := ⟨.hbm, 252, rfl⟩
abbrev main_v191 : Ref sig .tc := ⟨.hbm, 253, rfl⟩
abbrev main_cst_39 : Ref sig .tc := ⟨.hbm, 254, rfl⟩
abbrev main_call6_v0 : Ref sig .tc := ⟨.hbm, 255, rfl⟩
abbrev main_call6_v1 : Ref sig .tc := ⟨.hbm, 256, rfl⟩
abbrev main_v192 : Ref sig .tc := ⟨.hbm, 257, rfl⟩
abbrev main_cst_40 : Ref sig .tc := ⟨.hbm, 258, rfl⟩
abbrev main_v193 : Ref sig .tc := ⟨.hbm, 259, rfl⟩
abbrev main_cst_41 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_cst_42 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩

abbrev nD : Nat := 1
abbrev τ : Topo := Topo.v7x

variable {F : FTy → Type} [FloatOps F]
-- ==== Proof.Spec.lean ====
/-
  THE FUNCTION, IN SCALARS: what the router computes, written as functions of plain coordinates over the extended reals.
  The modules beside this one show that the kernel's regions and the reference's operations both compute these functions.
-/
module

public import Idealize.ShloMosaic.Lib.Pointwise

@[expose] public section

noncomputable section

namespace Cert.Router

open Idealize.ShloMosaic

/-- The real a 32-bit float pattern denotes. -/
abbrev lit (b : BitVec 32) : EReal := Ideal.ofBits .f32 b

/-- A polynomial by Horner's rule, leading coefficient first. -/
def poly (y c : EReal) (cs : List EReal) : EReal := cs.foldl (fun v a => v * y + a) c

/-- `(1 - erfc x)/x` near zero, as a polynomial in `x²`. -/
def series (z : EReal) : EReal :=
  poly z (lit 0x38A4B519#32)
    [lit 0xBA51FB80#32, lit 0x3BAA02D9#32, lit 0xBCDBFC87#32, lit 0x3DE7167C#32, lit 0xBEC0939F#32, lit 0x3F906EBA#32]

/-- `erfc x · |x| · exp (x²)` for `1 ≤ |x| < 2`, as a polynomial in `1/x²`. -/
def tailMid (w : EReal) : EReal :=
  poly w (lit 0x3CBE9CF4#32)
    [lit 0xBE0E0868#32, lit 0x3EBCCBD0#32, lit 0xBF151CF8#32, lit 0x3F1EF9E3#32, lit 0xBEFD28C0#32, lit 0x3EAE5471#32,
      lit 0xBE8C5880#32, lit 0x3F1056E6#32]

/-- `erfc x · |x| · exp (x²)` for `2 ≤ |x|`, as a polynomial in `1/x²`. -/
def tailFar (w : EReal) : EReal :=
  poly w (lit 0xC127A483#32)
    [lit 0x414FA29C#32, lit 0xC0EFDB4A#32, lit 0x403AF1FA#32, lit 0xBF81F436#32, lit 0x3ED7FC3E#32, lit 0xBE906C5D#32,
      lit 0x3F106EB9#32]

/-- `|x|`. -/
def mag (x : EReal) : EReal := max x (-x)

/-- The branch of `erfcApprox` for `1 ≤ |x|`, before its reflection. -/
def tail (x : EReal) : EReal :=
  if lit 0x42B17218#32 < x * x then 0
  else Ideal.div (Ideal.exp (-(x * x))) (mag x) *
    if mag x < lit 0x40000000#32 then tailMid (Ideal.div 1 (x * x)) else tailFar (Ideal.div 1 (x * x))

/-- The float32 rational approximation of the complementary error function. -/
def erfcApprox (x : EReal) : EReal :=
  if mag x < 1 then 1 - x * series (x * x)
  else if x < 0 then lit 0x40000000#32 - tail x else tail x

/-- `½ h · erfc (-h/√2)`. -/
def gelu (h : EReal) : EReal := lit 0x3F000000#32 * h * erfcApprox (-h * lit 0x3F3504F3#32)

/-- The eleven arguments, by coordinates. -/
structure Args where
  /-- The local descriptors. -/
  dl : Fin 4 → Fin 16 → Fin 64 → Fin 64 → EReal
  /-- The confidence. -/
  cf : Fin 4 → Fin 64 → Fin 64 → EReal
  /-- The image. -/
  x : Fin 4 → Fin 96 → Fin 512 → Fin 512 → EReal
  /-- The context projection. -/
  wc : Fin 16 → Fin 96 → EReal
  /-- Its bias. -/
  bc : Fin 16 → EReal
  /-- The input projection. -/
  wi : Fin 32 → Fin 33 → EReal
  /-- Its bias. -/
  bi : Fin 32 → EReal
  /-- The depthwise taps. -/
  wd : Fin 32 → Fin 3 → Fin 3 → EReal
  /-- Their bias. -/
  bd : Fin 32 → EReal
  /-- The output projection. -/
  wo : Fin 4 → Fin 32 → EReal
  /-- Its bias. -/
  bo : Fin 4 → EReal

/-- The arguments as arrays, read by coordinates. -/
def argsOf (a0 : FVec Ideal ⟨4, ![4, 16, 64, 64]⟩ .f32) (a1 : FVec Ideal ⟨4, ![4, 1, 64, 64]⟩ .f32)
    (a2 : FVec Ideal ⟨4, ![4, 96, 512, 512]⟩ .f32) (a3 : FVec Ideal ⟨2, ![16, 96]⟩ .f32) (a4 : FVec Ideal ⟨1, ![16]⟩ .f32)
    (a5 : FVec Ideal ⟨2, ![32, 33]⟩ .f32) (a6 : FVec Ideal ⟨1, ![32]⟩ .f32) (a7 : FVec Ideal ⟨4, ![32, 1, 3, 3]⟩ .f32)
    (a8 : FVec Ideal ⟨1, ![32]⟩ .f32) (a9 : FVec Ideal ⟨2, ![4, 32]⟩ .f32) (a10 : FVec Ideal ⟨1, ![4]⟩ .f32) : Args where
  dl b c i j := a0 (ix4 b c i j)
  cf b i j := a1 (ix4 b 0 i j)
  x b c i j := a2 (ix4 b c i j)
  wc o c := a3 (ix2 o c)
  bc o := a4 (ix1 o)
  wi o k := a5 (ix2 o k)
  bi o := a6 (ix1 o)
  wd o p q := a7 (ix4 o 0 p q)
  bd o := a8 (ix1 o)
  wo e o := a9 (ix2 e o)
  bo e := a10 (ix1 e)

variable (A : Args)

/-- The mean of the image over an 8 by 8 window. -/
def pooled (b : Fin 4) (c : Fin 96) (i j : Fin 64) : EReal :=
  (∑ q : Fin 8, ∑ p : Fin 8, A.x b c ⟨8 * i.val + p.val, by omega⟩ ⟨8 * j.val + q.val, by omega⟩) * lit 0x3C800000#32

/-- The context: the projected mean. -/
def ctx (b : Fin 4) (o : Fin 16) (i j : Fin 64) : EReal := (∑ c : Fin 96, A.wc o c * pooled A b c i j) + A.bc o

/-- The router's input: 16 descriptors, the confidence, 16 context channels. -/
def rin (b : Fin 4) (k : Fin 33) (i j : Fin 64) : EReal :=
  if h : k.val < 16 then A.dl b ⟨k.val, h⟩ i j
  else if h' : k.val < 17 then A.cf b i j
  else ctx A b ⟨k.val - 17, by omega⟩ i j

/-- The hidden layer before its activation. -/
def hid (b : Fin 4) (o : Fin 32) (i j : Fin 64) : EReal := (∑ k : Fin 33, A.wi o k * rin A b k i j) + A.bi o

/-- The activated hidden layer, continued by zeros: `u`, `v` count rows and columns from one before the first. -/
def act (b : Fin 4) (o : Fin 32) (u v : ℕ) : EReal :=
  if h : (1 ≤ u ∧ u < 65) ∧ 1 ≤ v ∧ v < 65 then gelu (hid A b o ⟨u - 1, by omega⟩ ⟨v - 1, by omega⟩) else 0

/-- The depthwise 3 by 3 convolution, taps in row order. -/
def conv (b : Fin 4) (o : Fin 32) (i j : Fin 64) : EReal :=
  A.wd o 0 0 * act A b o i.val j.val + A.wd o 0 1 * act A b o i.val (j.val + 1) + A.wd o 0 2 * act A b o i.val (j.val + 2)
    + A.wd o 1 0 * act A b o (i.val + 1) j.val + A.wd o 1 1 * act A b o (i.val + 1) (j.val + 1)
    + A.wd o 1 2 * act A b o (i.val + 1) (j.val + 2)
    + A.wd o 2 0 * act A b o (i.val + 2) j.val + A.wd o 2 1 * act A b o (i.val + 2) (j.val + 1)
    + A.wd o 2 2 * act A b o (i.val + 2) (j.val + 2) + A.bd o

/-- The experts' scores. -/
def logit (b : Fin 4) (e : Fin 4) (i j : Fin 64) : EReal := (∑ o : Fin 32, A.wo e o * conv A b o i j) + A.bo e

/-- Score `j` ranks before score `i`: it is larger, or equal and of a smaller index. -/
def beats (l : Fin 4 → EReal) (j i : Fin 4) : Prop := l i < l j ∨ (l i = l j ∧ j < i)

instance (l : Fin 4 → EReal) (j i : Fin 4) : Decidable (beats l j i) := by unfold beats; infer_instance

/-- Score `i` is one of the two best. -/
def chosen (l : Fin 4 → EReal) (i : Fin 4) : Prop := (Finset.univ.filter fun j => beats l j i).card < 2

instance (l : Fin 4 → EReal) (i : Fin 4) : Decidable (chosen l i) := by unfold chosen; infer_instance

/-- The largest score. -/
def top (l : Fin 4 → EReal) : EReal := max (max (max (l 0) (l 1)) (l 2)) (l 3)

/-- The unnormalized weight of expert `i`. -/
def weight (l : Fin 4 → EReal) (i : Fin 4) : EReal := if chosen l i then Ideal.exp (l i - top l) else 0

/-- The softmax over the two best scores. -/
def route (l : Fin 4 → EReal) (i : Fin 4) : EReal :=
  Ideal.div (weight l i) (weight l 0 + weight l 1 + weight l 2 + weight l 3)

/-- The routing weights. -/
def alpha (b : Fin 4) (e : Fin 4) (i j : Fin 64) : EReal := route (fun e => logit A b e i j) e

end Cert.Router

end
-- ==== Proof.KernelPool.lean ====
module

public import proofs.«01_k».proof.Proof.Gen.KernelIdeal.Frame
public import proofs.«01_k».proof.Proof.Spec
public import Idealize.ShloMosaic.Lib.Pipeline.ValueKit

/-!
The first launch of the kernel averages the context over 8 × 8 windows.
-/

@[expose] public section
set_option maxRecDepth 16384
noncomputable section
namespace Cert.KernelIdeal.Gen
open Idealize.ShloMosaic Idealize.ShloMosaic.TcCoe Idealize.SL.Sem Cert.Router
open Idealize.ShloMosaic.Pipeline (Dat)

variable (V : (c : Dev nD) → (b : Ref sig .tc) → Buf (Elt Ideal) ((c : Thread nD τ).loc b))

/-- One entry of a pooled block: an 8 × 8 window summed and scaled by a sixty-fourth. -/
theorem pool_pay (x : Vec Ideal S1x96x64x512 .f32) (c : Fin 96) (i : Fin 8) (j : Fin 64) :
    k0_pay1 x (ix4 0 c i j) = (∑ q : Fin 8, ∑ p : Fin 8, x (ix4 0 c ⟨8 * i.val + p.val, by omega⟩ ⟨8 * j.val + q.val, by omega⟩)) * lit 0x3C800000#32 := by
  pointwise [k0_pay1]
  refine congrArg (· * _) (Finset.sum_congr rfl fun q _ => Finset.sum_congr rfl fun p _ => congrArg x ?_)
  congr 1 <;> (apply Fin.ext; dsimp only; omega)

/-- Where each grid point of the pooling launch reads and writes. -/
theorem idx0 : ∀ t : Fin cfg0.N, win0_0.index t = ![(grid0.coords t 0).val, 0, (grid0.coords t 1).val, 0]
    ∧ win0_1.index t = ![(grid0.coords t 0).val, 0, (grid0.coords t 1).val, 0] :=
  (by decide +kernel : ∀ t : Fin grid0.N, _)

/-- The pooling launch leaves the 8 × 8 means of the context. -/
theorem final_pooled (A : Args) (c : Dev nD) (hx : ∀ b ch y x, V c main_arg2 (ix4 b ch y x) = A.x b ch y x) :
    (dat0 V c).arrAt 1 cfg0.N = fun i : S4x96x64x64.Idx => pooled A (i 0) (i 1) (i 2) (i 3) := by
  refine (dat0 V c).arrAt_eq_of_covers 1 _ (by decide +kernel) fun t hf y => ?_
  blk_simp
  rw [after0_1]; frame_out
  idx_vars y
  obtain rfl : y0 = 0 := Subsingleton.elim _ _
  rw [pool_pay]
  unfold pooled
  refine congrArg (· * _) (Finset.sum_congr rfl fun q _ => Finset.sum_congr rfl fun p _ => ?_)
  refine Eq.trans ?_ (hx _ _ _ _)
  blk_ext [iblk0, idx0 t]

end Cert.KernelIdeal.Gen
end
-- ==== Proof.KernelGelu.lean ====
/-
  THE ROUTER'S ACTIVATION: the kernel's polynomials, selections and reciprocals, at an index, are the scalar `gelu`.
-/
module

public import proofs.«01_k».proof.Proof.Gen.KernelIdeal.Skeleton
public import proofs.«01_k».proof.Proof.Spec

@[expose] public section

noncomputable section

namespace Cert.KernelIdeal.Gen

open Idealize.ShloMosaic Cert.Router

/-- The kernel's threshold on `-z` is the threshold on `z`. -/
theorem neg_lt_threshold (z : EReal) : (-z < Ideal.ofBits .f32 3266408984#32) = (lit 0x42B17218#32 < z) := by
  have e : Ideal.ofBits .f32 3266408984#32 = -lit 0x42B17218#32 := by
    simp [lit, Ideal.ofBits, Ideal.ieee, -EReal.coe_mul, -EReal.coe_neg]
    rfl
  rw [e, EReal.neg_lt_neg_iff]

/-- A product with a reciprocal is a quotient, away from zero. -/
theorem mul_div_one (e y : EReal) (hy : ¬ y < 1) : e * Ideal.div 1 y = Ideal.div e y := by
  have h0 : y ≠ 0 := by rintro rfl; exact hy (by norm_num)
  simp only [Ideal.div, if_neg h0, one_mul]

/-- The activation's payloads, composed as the kernel composes them, are `gelu` of the hidden layer at each index. -/
theorem gelu_pay (v0 : Vec Ideal S16x96 .f32) (v1 : Vec Ideal S1x96x4096 .f32) (v4 : Vec Ideal S16x1 .f32)
    (v8 : Vec Ideal S1x16x4096 .f32) (v10 : Vec Ideal S1x1x4096 .f32) (v13 : Vec Ideal S32x33 .f32)
    (v15 : Vec Ideal S32x1 .f32) (o : Fin 32) (n : Fin 4096) :
    k1_pay13 (k1_pay2 v0 v1 v4 v8 v10 v13 v15) (k1_pay3 v0 v1 v4 v8 v10 v13 v15) (k1_pay4 v0 v1 v4 v8 v10 v13 v15)
        (k1_pay7 (k1_pay3 v0 v1 v4 v8 v10 v13 v15) (k1_pay5 v0 v1 v4 v8 v10 v13 v15) (k1_pay6 v0 v1 v4 v8 v10 v13 v15))
        (k1_pay8 (k1_pay5 v0 v1 v4 v8 v10 v13 v15)) (k1_pay9 (k1_pay4 v0 v1 v4 v8 v10 v13 v15) (k1_pay5 v0 v1 v4 v8 v10 v13 v15))
        (k1_pay10 (k1_pay5 v0 v1 v4 v8 v10 v13 v15)) (k1_pay11 (k1_pay5 v0 v1 v4 v8 v10 v13 v15)) (k1_pay12 (F := Ideal)) (ix2 o n)
      = gelu (k1_pay1 v0 v1 v4 v8 v10 v13 v15 (ix2 o n)) := by
  have e3 : k1_pay3 v0 v1 v4 v8 v10 v13 v15 (ix2 o n)
      = -(k1_pay1 v0 v1 v4 v8 v10 v13 v15 (ix2 o n)) * lit 0x3F3504F3#32 := by
    pointwise [k1_pay3]
    rw [zero_sub]
  have e2 : k1_pay2 v0 v1 v4 v8 v10 v13 v15 (ix2 o n)
      = lit 0x3F000000#32 * k1_pay1 v0 v1 v4 v8 v10 v13 v15 (ix2 o n) := by
    pointwise [k1_pay2]
    rw [mul_comm]
  have e4 : k1_pay4 v0 v1 v4 v8 v10 v13 v15 (ix2 o n) = mag (k1_pay3 v0 v1 v4 v8 v10 v13 v15 (ix2 o n)) := by
    pointwise [k1_pay4]
    rfl
  have e5 : k1_pay5 v0 v1 v4 v8 v10 v13 v15 (ix2 o n)
      = k1_pay3 v0 v1 v4 v8 v10 v13 v15 (ix2 o n) * k1_pay3 v0 v1 v4 v8 v10 v13 v15 (ix2 o n) := by
    pointwise [k1_pay5]
  have e6 : k1_pay6 v0 v1 v4 v8 v10 v13 v15 (ix2 o n)
      = (lit 0x38A4B519#32 * k1_pay5 v0 v1 v4 v8 v10 v13 v15 (ix2 o n) + lit 0xBA51FB80#32)
          * k1_pay5 v0 v1 v4 v8 v10 v13 v15 (ix2 o n) + lit 0x3BAA02D9#32 := by
    pointwise [k1_pay6]
    rw [mul_comm (k1_pay5 v0 v1 v4 v8 v10 v13 v15 (ix2 o n)) (Ideal.ofBits .f32 950318361#32)]
  rw [gelu, ← e3, ← e2]
  pointwise [k1_pay13, k1_pay12, k1_pay11, k1_pay10, k1_pay9, k1_pay8, k1_pay7]
  simp only [e6, e5, e4]
  generalize k1_pay2 v0 v1 v4 v8 v10 v13 v15 (ix2 o n) = a
  generalize k1_pay3 v0 v1 v4 v8 v10 v13 v15 (ix2 o n) = x
  refine congrArg (a * ·) ?_
  simp only [zero_sub, neg_lt_threshold, mul_comm _ (Ideal.ofBits .f32 1019124980#32),
    mul_comm _ (Ideal.ofBits .f32 3240600707#32)]
  unfold erfcApprox
  by_cases hm : mag x < 1
  · rw [if_pos hm, if_pos hm]; rfl
  · rw [if_neg hm, if_neg hm, mul_div_one _ _ hm]; rfl

end Cert.KernelIdeal.Gen

end
-- ==== Proof.KernelConv.lean ====
/-
  THE ROUTER'S SCORES: the hidden layer, the nine shifted taps of the padded row and the output projection, at an index.
-/
module

public import proofs.«01_k».proof.Proof.Gen.KernelIdeal.Skeleton
public import proofs.«01_k».proof.Proof.Spec
public import Idealize.ShloMosaic.Lib.WordCmp

@[expose] public section

noncomputable section

namespace Cert.KernelIdeal.Gen

open Idealize.ShloMosaic Cert.Router

/-- The row of a flattened pixel. -/
abbrev row (n : Fin 4096) : Fin 64 := ⟨n.val / 64, by omega⟩
/-- The column of a flattened pixel. -/
abbrev col (n : Fin 4096) : Fin 64 := ⟨n.val % 64, by omega⟩

/-- The hidden layer's payload at a pixel is `hid`, of blocks that hold the arguments flattened. -/
theorem hid_pay (A : Args) (b : Fin 4) (v0 : Vec Ideal S16x96 .f32) (v1 : Vec Ideal S1x96x4096 .f32) (v4 : Vec Ideal S16x1 .f32)
    (v8 : Vec Ideal S1x16x4096 .f32) (v10 : Vec Ideal S1x1x4096 .f32) (v13 : Vec Ideal S32x33 .f32)
    (v15 : Vec Ideal S32x1 .f32) (h0 : ∀ o c, v0 (ix2 o c) = A.wc o c)
    (h1 : ∀ c n, v1 (ix3 0 c n) = pooled A b c (row n) (col n)) (h4 : ∀ o, v4 (ix2 o 0) = A.bc o)
    (h8 : ∀ c n, v8 (ix3 0 c n) = A.dl b c (row n) (col n)) (h10 : ∀ n, v10 (ix3 0 0 n) = A.cf b (row n) (col n))
    (h13 : ∀ o k, v13 (ix2 o k) = A.wi o k) (h15 : ∀ o, v15 (ix2 o 0) = A.bi o) (o : Fin 32) (n : Fin 4096) :
    k1_pay1 v0 v1 v4 v8 v10 v13 v15 (ix2 o n) = hid A b o (row n) (col n) := by
  pointwise [k1_pay1]
  simp only [h0, h1, h4, h8, h10, h13, h15, hid]
  refine congrArg (· + A.bi o) (Finset.sum_congr rfl fun k _ => congrArg (A.wi o k * ·) ?_)
  unfold rin ctx
  have hk := k.isLt
  by_cases h : k.val < 16
  · simp [h]
  · by_cases h' : k.val < 17
    · have : k.val - 16 < 1 := by omega
      simp [h, h', this]
    · have : ¬ k.val - 16 < 1 := by omega
      have e : k.val - 16 - 1 = k.val - 17 := by omega
      simp [h, h', this, e]

/-- The left mask: the column is not the first. -/
theorem mask_left (o : Fin 32) (n : Fin 4096) : k1_pay16 (ix2 o n) = BitVec.ofBool (decide (0 < n.val % 64)) := by
  pointwise [k1_pay16, k1_pay15]
  revert n
  decide +kernel

/-- The right mask: the column is not the last. -/
theorem mask_right (o : Fin 32) (n : Fin 4096) : k1_pay17 (ix2 o n) = BitVec.ofBool (decide (n.val % 64 < 63)) := by
  pointwise [k1_pay17, k1_pay15]
  revert n
  decide +kernel

/-- The padded row at `63 + 64 u + w` is the activation continued by zeros at row `u` and column `w` of the padded image, for
    columns `w` of the image itself. -/
theorem pad_pay (A : Args) (b : Fin 4) (v : FVec Ideal S32x4096 .f32) (o : Fin 32)
    (hv : ∀ n, v (ix2 o n) = gelu (hid A b o (row n) (col n))) (m : Fin 4352) (u w : ℕ) (hm : m.val = 63 + 64 * u + w)
    (hw : 1 ≤ w ∧ w < 65) : k1_pay14 v (ix2 o m) = act A b o u w := by
  pointwise [k1_pay14]
  unfold act
  by_cases h1 : m.val < 128
  · have : ¬ ((1 ≤ u ∧ u < 65) ∧ 1 ≤ w ∧ w < 65) := by omega
    rw [dif_pos h1, dif_neg this]
  · rw [dif_neg h1]
    by_cases h2 : m.val - 128 < 4096
    · have : (1 ≤ u ∧ u < 65) ∧ 1 ≤ w ∧ w < 65 := by omega
      rw [dif_pos h2, dif_pos this, hv]
      have e1 : (m.val - 128) / 64 = u - 1 := by omega
      have e2 : (m.val - 128) % 64 = w - 1 := by omega
      simp only [row, col, e1, e2]
    · have : ¬ ((1 ≤ u ∧ u < 65) ∧ 1 ≤ w ∧ w < 65) := by omega
      rw [dif_neg h2, dif_neg this]

/-- A term under the left mask. -/
theorem left_term (A : Args) (b : Fin 4) (v : FVec Ideal S32x4096 .f32) (o : Fin 32)
    (hv : ∀ n, v (ix2 o n) = gelu (hid A b o (row n) (col n))) (n : Fin 4096) (m : Fin 4352) (d : ℕ)
    (hm : m.val = 63 + 64 * d + n.val) (a : EReal) :
    Scalar.select (BitVec.ofBool (decide (0 < n.val % 64))) (a * k1_pay14 v (ix2 o m)) 0
      = a * act A b o (n.val / 64 + d) (n.val % 64) := by
  rw [WordCmp.select_decide]
  split_ifs with h
  · rw [pad_pay A b v o hv m (n.val / 64 + d) (n.val % 64) (by omega) (by omega)]
  · rw [act, dif_neg (by omega), mul_zero]

/-- A term under the right mask. -/
theorem right_term (A : Args) (b : Fin 4) (v : FVec Ideal S32x4096 .f32) (o : Fin 32)
    (hv : ∀ n, v (ix2 o n) = gelu (hid A b o (row n) (col n))) (n : Fin 4096) (m : Fin 4352) (d : ℕ)
    (hm : m.val = 65 + 64 * d + n.val) (a : EReal) :
    Scalar.select (BitVec.ofBool (decide (n.val % 64 < 63))) (a * k1_pay14 v (ix2 o m)) 0
      = a * act A b o (n.val / 64 + d) (n.val % 64 + 2) := by
  rw [WordCmp.select_decide]
  split_ifs with h
  · rw [pad_pay A b v o hv m (n.val / 64 + d) (n.val % 64 + 2) (by omega) (by omega)]
  · rw [act, dif_neg (by omega), mul_zero]

/-- A term in the middle column. -/
theorem mid_term (A : Args) (b : Fin 4) (v : FVec Ideal S32x4096 .f32) (o : Fin 32)
    (hv : ∀ n, v (ix2 o n) = gelu (hid A b o (row n) (col n))) (n : Fin 4096) (m : Fin 4352) (d : ℕ)
    (hm : m.val = 64 + 64 * d + n.val) :
    k1_pay14 v (ix2 o m) = act A b o (n.val / 64 + d) (n.val % 64 + 1) :=
  pad_pay A b v o hv m (n.val / 64 + d) (n.val % 64 + 1) (by omega) (by omega)

/-- The taps' payloads, composed as the kernel composes them, are `conv` and then `logit` at each pixel. -/
theorem logit_pay (A : Args) (b : Fin 4) (v : FVec Ideal S32x4096 .f32) (w : Vec Ideal S32x9 .f32) (bd : Vec Ideal S32x1 .f32)
    (wo : Vec Ideal S4x32 .f32) (bo : Vec Ideal S4x1 .f32)
    (hv : ∀ o n, v (ix2 o n) = gelu (hid A b o (row n) (col n)))
    (hw : ∀ (o : Fin 32) (p q : Fin 3), w (ix2 o ⟨3 * p.val + q.val, by omega⟩) = A.wd o p q)
    (hbd : ∀ o, bd (ix2 o 0) = A.bd o) (hwo : ∀ e o, wo (ix2 e o) = A.wo e o) (hbo : ∀ e, bo (ix2 e 0) = A.bo e)
    (e : Fin 4) (n : Fin 4096) :
    k1_pay23 k1_pay17 (k1_pay21 (k1_pay14 v) k1_pay16 k1_pay17 (k1_pay18 v w w) (k1_pay19 v) (k1_pay20 w) w w w w w)
        (k1_pay22 (k1_pay14 v)) (Scalar.ofBits .f32 0x00000000#32) w bd wo bo (ix2 e n)
      = logit A b e (row n) (col n) := by
  pointwise [k1_pay23, k1_pay22, k1_pay21, k1_pay20, k1_pay19, k1_pay18]
  simp only [mask_left, mask_right]
  unfold logit conv
  have hw' : ∀ (o : Fin 32) (p q : Fin 3) (k : Fin 9), k.val = 3 * p.val + q.val → w (ix2 o k) = A.wd o p q := fun o p q k h => by
    rw [← hw o p q]; exact congrArg (fun k => w (ix2 o k)) (Fin.ext h)
  rw [hbo e]
  refine congrArg (· + A.bo e) (Finset.sum_congr rfl fun x _ => ?_)
  rw [hwo e x, hbd x, hw' x 0 0 0 rfl, hw' x 0 1 1 rfl, hw' x 0 2 2 rfl, hw' x 1 0 3 rfl, hw' x 1 1 4 rfl, hw' x 1 2 5 rfl,
    hw' x 2 0 6 rfl, hw' x 2 1 7 rfl, hw' x 2 2 8 rfl,
    left_term A b v x (hv x) n ⟨63 + n.val, by omega⟩ 0 rfl, left_term A b v x (hv x) n ⟨127 + n.val, by omega⟩ 1 rfl,
    left_term A b v x (hv x) n ⟨191 + n.val, by omega⟩ 2 rfl,
    mid_term A b v x (hv x) n ⟨64 + n.val, by omega⟩ 0 rfl, mid_term A b v x (hv x) n ⟨128 + n.val, by omega⟩ 1 rfl,
    mid_term A b v x (hv x) n ⟨192 + n.val, by omega⟩ 2 rfl,
    right_term A b v x (hv x) n ⟨65 + n.val, by omega⟩ 0 rfl, right_term A b v x (hv x) n ⟨129 + n.val, by omega⟩ 1 rfl,
    right_term A b v x (hv x) n ⟨193 + n.val, by omega⟩ 2 rfl]
  rfl

end Cert.KernelIdeal.Gen

end
-- ==== Proof.KernelRoute.lean ====
/-
  THE ROUTER'S SELECTION: the kernel's rank counts choose the two best scores, and its quotients are `route`.
-/
module

public import proofs.«01_k».proof.Proof.Gen.KernelIdeal.Skeleton
public import proofs.«01_k».proof.Proof.Spec
public import Idealize.ShloMosaic.Lib.WordCmp

@[expose] public section

noncomputable section

namespace Cert.KernelIdeal.Gen

open Idealize.ShloMosaic Cert.Router

/-- Three one-bit flags, widened and added, are below two when at most one is set. -/
theorem count_flags : ∀ p q r : Bool,
    IntOp.cmpi CmpIPredicate.slt (IntOp.addi (IntOp.addi (BitVec.setWidth 32 (BitVec.ofBool p)) (BitVec.setWidth 32 (BitVec.ofBool q)))
        (BitVec.setWidth 32 (BitVec.ofBool r))) 2#32
      = BitVec.ofBool (decide (p.toNat + q.toNat + r.toNat < 2)) := by
  decide

/-- `chosen` by the number of scores ranking before. -/
theorem chosen_iff (l : Fin 4 → EReal) (i : Fin 4) : chosen l i ↔
    (decide (beats l 0 i)).toNat + (decide (beats l 1 i)).toNat + (decide (beats l 2 i)).toNat + (decide (beats l 3 i)).toNat < 2 := by
  unfold chosen
  rw [Finset.card_filter, Fin.sum_univ_four]
  simp only [Bool.toNat, Bool.cond_decide]

/-- The first score is chosen. -/
theorem chosen_zero (l : Fin 4 → EReal) : chosen l 0 ↔
    (decide (l 0 < l 1)).toNat + (decide (l 0 < l 2)).toNat + (decide (l 0 < l 3)).toNat < 2 := by
  rw [chosen_iff]; simp [beats]

/-- The second score is chosen. -/
theorem chosen_one (l : Fin 4 → EReal) : chosen l 1 ↔
    (decide (l 1 ≤ l 0)).toNat + (decide (l 1 < l 2)).toNat + (decide (l 1 < l 3)).toNat < 2 := by
  rw [chosen_iff]; simp [beats, le_iff_lt_or_eq]

/-- The third score is chosen. -/
theorem chosen_two (l : Fin 4 → EReal) : chosen l 2 ↔
    (decide (l 2 ≤ l 0)).toNat + (decide (l 2 ≤ l 1)).toNat + (decide (l 2 < l 3)).toNat < 2 := by
  rw [chosen_iff]; simp [beats, le_iff_lt_or_eq]

/-- The last score is chosen. -/
theorem chosen_three (l : Fin 4 → EReal) : chosen l 3 ↔
    (decide (l 3 ≤ l 0)).toNat + (decide (l 3 ≤ l 1)).toNat + (decide (l 3 ≤ l 2)).toNat < 2 := by
  rw [chosen_iff]; simp [beats, le_iff_lt_or_eq]

/-- The selection's payloads, composed as the kernel composes them, are `route` of the scores at each pixel. -/
theorem route_pay (v145 : IVec S32x4096 1) (v210 v211 : FVec Ideal S32x4096 .f32) (c : Ideal .f32) (v214 : Vec Ideal S32x9 .f32)
    (v220 : Vec Ideal S32x1 .f32) (v224 : Vec Ideal S4x32 .f32) (v226 : Vec Ideal S4x1 .f32) (l : Fin 4 → EReal) (n : Fin 4096)
    (hl : ∀ e, k1_pay23 v145 v210 v211 c v214 v220 v224 v226 (ix2 e n) = l e) (e : Fin 4) :
    k1_pay32 (k1_pay24 v145 v210 v211 c v214 v220 v224 v226) (k1_pay25 v145 v210 v211 c v214 v220 v224 v226)
        (k1_pay26 v145 v210 v211 c v214 v220 v224 v226) (k1_pay27 v145 v210 v211 c v214 v220 v224 v226)
        (k1_pay28 v145 v210 v211 c v214 v220 v224 v226) (k1_pay29 v145 v210 v211 c v214 v220 v224 v226)
        (k1_pay30 v145 v210 v211 c v214 v220 v224 v226) (k1_pay31 v145 v210 v211 c v214 v220 v224 v226) (ix3 0 e n)
      = route l e := by
  have e0 : k1_pay24 v145 v210 v211 c v214 v220 v224 v226 (ix1 n) = l 0 := by rw [← hl]; pointwise [k1_pay24, k1_pay23]
  have e1 : k1_pay25 v145 v210 v211 c v214 v220 v224 v226 (ix1 n) = l 1 := by rw [← hl]; pointwise [k1_pay25, k1_pay23]
  have e2 : k1_pay26 v145 v210 v211 c v214 v220 v224 v226 (ix1 n) = l 2 := by rw [← hl]; pointwise [k1_pay26, k1_pay23]
  have e3 : k1_pay27 v145 v210 v211 c v214 v220 v224 v226 (ix1 n) = l 3 := by rw [← hl]; pointwise [k1_pay27, k1_pay23]
  have em : k1_pay28 v145 v210 v211 c v214 v220 v224 v226 (ix1 n) = top l := by
    pointwise [k1_pay28]
    rw [e0, e1, e2, e3]; rfl
  have w0 : k1_pay29 v145 v210 v211 c v214 v220 v224 v226 (ix1 n) = weight l 0 := by
    pointwise [k1_pay29]
    rw [e0, e1, e2, e3, em, count_flags, WordCmp.select_decide, weight]
    simp only [chosen_zero]
  have ec : k1_pay30 v145 v210 v211 c v214 v220 v224 v226 (ix1 n) = IntOp.addi (BitVec.setWidth 32 (BitVec.ofBool (decide (l 1 ≤ l 0)))) (BitVec.setWidth 32 (BitVec.ofBool (decide (l 1 < l 2)))) := by
    pointwise [k1_pay30]
    rw [e0, e1, e2]
  have ed : k1_pay31 v145 v210 v211 c v214 v220 v224 v226 (ix1 n) = BitVec.ofBool (decide (l 1 < l 3)) := by
    pointwise [k1_pay31]
    rw [e1, e3]
  pointwise [k1_pay32]
  simp only [ec, ed, e0, e1, e2, e3, em, w0, count_flags, WordCmp.select_decide]
  have w1 : (if (decide (l 1 ≤ l 0)).toNat + (decide (l 1 < l 2)).toNat + (decide (l 1 < l 3)).toNat < 2 then Ideal.exp (l 1 - top l) else 0) = weight l 1 := by
    unfold weight; simp only [chosen_one]
  have w2 : (if (decide (l 2 ≤ l 0)).toNat + (decide (l 2 ≤ l 1)).toNat + (decide (l 2 < l 3)).toNat < 2 then Ideal.exp (l 2 - top l) else 0) = weight l 2 := by
    unfold weight; simp only [chosen_two]
  have w3 : (if (decide (l 3 ≤ l 0)).toNat + (decide (l 3 ≤ l 1)).toNat + (decide (l 3 ≤ l 2)).toNat < 2 then Ideal.exp (l 3 - top l) else 0) = weight l 3 := by
    unfold weight; simp only [chosen_three]
  simp only [w1, w2, w3]
  fin_cases e <;> rfl

end Cert.KernelIdeal.Gen

end
-- ==== Proof.KernelRouter.lean ====
module

public import proofs.«01_k».proof.Proof.KernelGelu
public import proofs.«01_k».proof.Proof.KernelConv
public import proofs.«01_k».proof.Proof.KernelRoute
public import proofs.«01_k».proof.Proof.Gen.KernelIdeal.Frame
public import Idealize.ShloMosaic.Lib.Pipeline.ValueKit

/-!
The middle launch of the kernel computes, image by image, the routing weights of all 4096 pixels.
What it leaves in its output array is read here, from what its eleven input arrays hold.
-/

@[expose] public section
set_option maxRecDepth 16384
noncomputable section
namespace Cert.KernelIdeal.Gen
open Idealize.ShloMosaic Idealize.ShloMosaic.TcCoe Idealize.SL.Sem Cert.Router
open Idealize.ShloMosaic.Pipeline (Dat)

variable (V : (c : Dev nD) → (b : Ref sig .tc) → Buf (Elt Ideal) ((c : Thread nD τ).loc b))

/-- Where each grid point of the router launch reads and writes. -/
theorem idx1 : ∀ t : Fin cfg1.N, win1_0.index t = ![t.val, 0, 0] ∧ win1_1.index t = ![t.val, 0, 0] ∧ win1_2.index t = ![t.val, 0, 0]
    ∧ win1_3.index t = ![0, 0] ∧ win1_4.index t = ![0, 0] ∧ win1_5.index t = ![0, 0] ∧ win1_6.index t = ![0, 0] ∧ win1_7.index t = ![0, 0]
    ∧ win1_8.index t = ![0, 0] ∧ win1_9.index t = ![0, 0] ∧ win1_10.index t = ![0, 0] ∧ win1_11.index t = ![t.val, 0, 0] :=
  (by decide +kernel : ∀ t : Fin grid1.N, _)

set_option maxHeartbeats 4000000 in
/-- The router launch leaves the routing weights, pixels numbered row by row. -/
theorem final_weights (A : Args) (c : Dev nD)
    (h0 : ∀ b o n, V c main_v4 (ix3 b o n) = A.dl b o (row n) (col n))
    (h1 : ∀ b n, V c main_v5 (ix3 b 0 n) = A.cf b (row n) (col n))
    (h2 : ∀ b k n, V c main_v6 (ix3 b k n) = pooled A b k (row n) (col n))
    (h3 : ∀ o k, V c main_arg3 (ix2 o k) = A.wc o k) (h4 : ∀ o, V c main_v7 (ix2 o 0) = A.bc o)
    (h5 : ∀ o k, V c main_arg5 (ix2 o k) = A.wi o k) (h6 : ∀ o, V c main_v8 (ix2 o 0) = A.bi o)
    (h7 : ∀ (o : Fin 32) (p q : Fin 3), V c main_v3 (ix2 o ⟨3 * p.val + q.val, by omega⟩) = A.wd o p q)
    (h8 : ∀ o, V c main_v9 (ix2 o 0) = A.bd o) (h9 : ∀ e o, V c main_arg9 (ix2 e o) = A.wo e o)
    (h10 : ∀ e, V c main_v10 (ix2 e 0) = A.bo e) :
    (dat1 V c).arrAt 11 cfg1.N = fun i : S4x4x4096.Idx => alpha A (i 0) (i 1) (row (i 2)) (col (i 2)) := by
  refine (dat1 V c).arrAt_eq_of_covers 11 _ (by decide +kernel) fun t hf y => ?_
  blk_simp
  rw [after1_11]
  unfold_out out1_11
  frame_out
  idx_vars y
  obtain rfl : y0 = 0 := Subsingleton.elim _ _
  have ht : t.val < 4 := lt_of_lt_of_eq t.isLt N_1
  refine (route_pay _ _ _ _ _ _ _ _ (fun e => logit A ⟨t.val, ht⟩ e (row y2) (col y2)) y2
    (fun e => logit_pay A ⟨t.val, ht⟩ _ _ _ _ _
      (fun o n => (gelu_pay _ _ _ _ _ _ _ o n).trans
        (congrArg gelu (hid_pay A ⟨t.val, ht⟩ _ _ _ _ _ _ _ ?_ ?_ ?_ ?_ ?_ ?_ ?_ o n))) ?_ ?_ ?_ ?_ e y2) y1).trans ?_
  · exact fun o k => .trans (by blk_ext [iblk1, idx1 t]) (h3 o k)
  · exact fun k n => .trans (by blk_ext [iblk1, idx1 t]) (h2 ⟨t.val, ht⟩ k n)
  · exact fun o => .trans (by blk_ext [iblk1, idx1 t]) (h4 o)
  · exact fun k n => .trans (by blk_ext [iblk1, idx1 t]) (h0 ⟨t.val, ht⟩ k n)
  · exact fun n => .trans (by blk_ext [iblk1, idx1 t]) (h1 ⟨t.val, ht⟩ n)
  · exact fun o k => .trans (by blk_ext [iblk1, idx1 t]) (h5 o k)
  · exact fun o => .trans (by blk_ext [iblk1, idx1 t]) (h6 o)
  · exact fun o p q => .trans (by blk_ext [iblk1, idx1 t]) (h7 o p q)
  · exact fun o => .trans (by blk_ext [iblk1, idx1 t]) (h8 o)
  · exact fun e o => .trans (by blk_ext [iblk1, idx1 t]) (h9 e o)
  · exact fun e => .trans (by blk_ext [iblk1, idx1 t]) (h10 e)
  · have e0 : ((View.whole main_v11).slice (win1_11.rect t)).emb (ix3 0 y1 y2) = ix3 ⟨t.val, ht⟩ y1 y2 := by
      blk_ext [idx1 t]
    rw [e0]; rfl

end Cert.KernelIdeal.Gen
end
-- ==== Proof.KernelUp.lean ====
module

public import proofs.«01_k».proof.Proof.Gen.KernelIdeal.Frame
public import proofs.«01_k».proof.Proof.Spec
public import Idealize.ShloMosaic.Lib.Pipeline.ValueKit

/-!
The last launch of the kernel spreads each 64 × 64 map over 512 × 512 by multiplying every row with
a table of zeros and ones.  What it leaves in its two output arrays is read here.
-/

@[expose] public section
set_option maxRecDepth 16384
noncomputable section
namespace Cert.KernelIdeal.Gen
open Idealize.ShloMosaic Idealize.ShloMosaic.TcCoe Idealize.SL.Sem Cert.Router
open Idealize.ShloMosaic.Pipeline (Dat)

variable (V : (c : Dev nD) → (b : Ref sig .tc) → Buf (Elt Ideal) ((c : Thread nD τ).loc b))

/-- A row times the spreading table is the row's entry at the column's eighth. -/
theorem spread_sum (f u : Fin 64 → EReal) (x : Fin 512)
    (hu : ∀ k, u k = if x.val / 8 = k.val then 1 else 0) :
    ∑ k : Fin 64, f k * u k = f ⟨x.val / 8, by omega⟩ := by
  rw [Finset.sum_eq_single (⟨x.val / 8, by omega⟩ : Fin 64)]
  · rw [hu, if_pos rfl, mul_one]
  · intro k _ hk
    rw [hu, if_neg, mul_zero]
    exact fun h => hk (Fin.ext h.symm)
  · exact fun h => absurd (Finset.mem_univ _) h

/-- Where each grid point of the upsampling launch reads and writes. -/
theorem idx2 : ∀ t : Fin cfg2.N, win2_0.index t = ![t.val, 0, 0, 0] ∧ win2_1.index t = ![t.val, 0, 0, 0]
    ∧ win2_2.index t = ![0, 0] ∧ win2_3.index t = ![t.val, 0, 0, 0] ∧ win2_4.index t = ![t.val, 0, 0, 0] :=
  (by decide +kernel : ∀ t : Fin grid2.N, _)

/-- One entry of a stored tile: the tile's source, a row times the table. -/
theorem spread_entry (u : Vec Ideal S64x512 .f32) (v : Vec Ideal S1x1x64x64 .f32) (y x : Fin 512) :
    k2_pay4 u v (ix4 0 0 y x) = ∑ k : Fin 64, v (ix4 0 0 ⟨y.val / 8, by omega⟩ k) * u (ix2 k x) := by
  pointwise [k2_pay4]

/-- The four tiles of one grid point compute the same function of their source. -/
theorem tiles_agree (u : Vec Ideal S64x512 .f32) (v : Vec Ideal S1x1x64x64 .f32) :
    k2_pay5 u v = k2_pay4 u v ∧ k2_pay1 (k2_pay6 u v) = k2_pay4 u v ∧ k2_pay2 u v = k2_pay4 u v
      ∧ k2_pay3 u v = k2_pay4 u v :=
  ⟨rfl, rfl, rfl, rfl⟩

/-- The low-resolution row or column a fine one belongs to. -/
abbrev eighth (x : Fin 512) : Fin 64 := ⟨x.val / 8, by omega⟩

/-- One fine entry of a block: its low-resolution row times the table. -/
def spread (u : Vec Ideal S64x512 .f32) (v : Vec Ideal S1x4x64x64 .f32) (e : Fin 4) (y x : Fin 512) : EReal :=
  ∑ k : Fin 64, v (ix4 0 e (eighth y) k) * u (ix2 k x)

/-- The fine weights: each entry is the coarse weight of its eighth row and eighth column. -/
theorem final_fine (c : Dev nD) (W : Fin 4 → Fin 4 → Fin 64 → Fin 64 → EReal)
    (hu : ∀ (k : Fin 64) (x : Fin 512), V c main_cst (ix2 k x) = if x.val / 8 = k.val then (1 : EReal) else 0)
    (hW : ∀ b e i j, V c main_v12 (ix4 b e i j) = W b e i j) :
    (dat2 V c).arrAt 3 cfg2.N = fun i : S4x4x512x512.Idx => W (i 0) (i 1) (eighth (i 2)) (eighth (i 3)) := by
  refine (dat2 V c).arrAt_eq_of_covers 3 _ (by decide +kernel) fun t hf y => ?_
  blk_simp
  rw [after2_3]; frame_out
  refine Eq.trans (b := spread (iblk2 V c 2 t) (iblk2 V c 0 t) (y 1) (y 2) (y 3)) ?_ ?_
  · clear hu hW hf
    canon_tiles x h
    all_goals (open_payloads; pointwise [spread]; refine Fin.sum_fin_congr fun k => congrArg₂ (fun a b : EReal => a * b) ?_ ?_ <;> blk_ext)
  idx_vars y
  refine (spread_sum (fun k => (show Vec Ideal S1x4x64x64 .f32 from iblk2 V c 0 t) (ix4 0 y1 (eighth y2) k))
    (fun k => (show Vec Ideal S64x512 .f32 from iblk2 V c 2 t) (ix2 k y3)) y3 fun k => ?_).trans ?_
  · refine Eq.trans ?_ (hu k y3)
    blk_ext [iblk2, idx2 t] <;> (refine congrArg (· / 8) ?_; blk_simp [idx2 t] <;> try omega)
  · refine Eq.trans ?_ (hW _ _ _ _)
    blk_ext [iblk2, idx2 t] <;> (refine congrArg (· / 8) ?_; blk_simp [idx2 t] <;> try omega)

/-- The fine confidence: each entry is the coarse confidence of its eighth row and column. -/
theorem final_confidence (c : Dev nD) (W : Fin 4 → Fin 64 → Fin 64 → EReal)
    (hu : ∀ (k : Fin 64) (x : Fin 512), V c main_cst (ix2 k x) = if x.val / 8 = k.val then (1 : EReal) else 0)
    (hW : ∀ b i j, V c main_arg1 (ix4 b 0 i j) = W b i j) :
    (dat2 V c).arrAt 4 cfg2.N = fun i : S4x1x512x512.Idx => W (i 0) (eighth (i 2)) (eighth (i 3)) := by
  refine (dat2 V c).arrAt_eq_of_covers 4 _ (by decide +kernel) fun t hf y => ?_
  blk_simp
  rw [after2_4]; frame_out
  idx_vars y
  obtain rfl : y0 = 0 := Subsingleton.elim _ _
  obtain rfl : y1 = 0 := Subsingleton.elim _ _
  rw [(tiles_agree _ _).2.2.2, spread_entry]
  refine (spread_sum (fun k => (show Vec Ideal S1x1x64x64 .f32 from iblk2 V c 1 t) (ix4 0 0 (eighth y2) k))
    (fun k => (show Vec Ideal S64x512 .f32 from iblk2 V c 2 t) (ix2 k y3)) y3 fun k => ?_).trans ?_
  · refine Eq.trans ?_ (hu k y3)
    blk_ext [iblk2, idx2 t] <;> (refine congrArg (· / 8) ?_; blk_simp [idx2 t] <;> try omega)
  · refine Eq.trans ?_ (hW _ _ _)
    blk_ext [iblk2, idx2 t] <;> (refine congrArg (· / 8) ?_; blk_simp [idx2 t] <;> try omega)

end Cert.KernelIdeal.Gen
end
-- ==== Proof.UpTable.lean ====
module

public import proofs.«01_k».proof.KernelIdeal

/-!
The host table the upsampling kernel multiplies by holds 64 rows of 512 words.  Row `k` is the
float one at the eight columns `8k … 8k+7` and zero elsewhere.  The rows are read one at a time.
-/

@[expose] public section
set_option maxRecDepth 16384
noncomputable section
namespace Cert.KernelIdeal
open Idealize.ShloMosaic

/-- Row `k` of the table is one exactly on the columns whose eighth is `k`. -/
def RowSpreads (k : Nat) : Prop :=
  ∀ x : Fin 512, lit0t (k * 512 + x.val) = if x.val / 8 = k then 0x3F800000#32 else 0x00000000#32

instance (k : Nat) : Decidable (RowSpreads k) := by unfold RowSpreads; infer_instance

/-- Row 0 is one on its own eight columns only. -/
theorem table_row0 : RowSpreads 0 := by decide +kernel
/-- Row 1 is one on its own eight columns only. -/
theorem table_row1 : RowSpreads 1 := by decide +kernel
/-- Row 2 is one on its own eight columns only. -/
theorem table_row2 : RowSpreads 2 := by decide +kernel
/-- Row 3 is one on its own eight columns only. -/
theorem table_row3 : RowSpreads 3 := by decide +kernel
/-- Row 4 is one on its own eight columns only. -/
theorem table_row4 : RowSpreads 4 := by decide +kernel
/-- Row 5 is one on its own eight columns only. -/
theorem table_row5 : RowSpreads 5 := by decide +kernel
/-- Row 6 is one on its own eight columns only. -/
theorem table_row6 : RowSpreads 6 := by decide +kernel
/-- Row 7 is one on its own eight columns only. -/
theorem table_row7 : RowSpreads 7 := by decide +kernel
/-- Row 8 is one on its own eight columns only. -/
theorem table_row8 : RowSpreads 8 := by decide +kernel
/-- Row 9 is one on its own eight columns only. -/
theorem table_row9 : RowSpreads 9 := by decide +kernel
/-- Row 10 is one on its own eight columns only. -/
theorem table_row10 : RowSpreads 10 := by decide +kernel
/-- Row 11 is one on its own eight columns only. -/
theorem table_row11 : RowSpreads 11 := by decide +kernel
/-- Row 12 is one on its own eight columns only. -/
theorem table_row12 : RowSpreads 12 := by decide +kernel
/-- Row 13 is one on its own eight columns only. -/
theorem table_row13 : RowSpreads 13 := by decide +kernel
/-- Row 14 is one on its own eight columns only. -/
theorem table_row14 : RowSpreads 14 := by decide +kernel
/-- Row 15 is one on its own eight columns only. -/
theorem table_row15 : RowSpreads 15 := by decide +kernel
/-- Row 16 is one on its own eight columns only. -/
theorem table_row16 : RowSpreads 16 := by decide +kernel
/-- Row 17 is one on its own eight columns only. -/
theorem table_row17 : RowSpreads 17 := by decide +kernel
/-- Row 18 is one on its own eight columns only. -/
theorem table_row18 : RowSpreads 18 := by decide +kernel
/-- Row 19 is one on its own eight columns only. -/
theorem table_row19 : RowSpreads 19 := by decide +kernel
/-- Row 20 is one on its own eight columns only. -/
theorem table_row20 : RowSpreads 20 := by decide +kernel
/-- Row 21 is one on its own eight columns only. -/
theorem table_row21 : RowSpreads 21 := by decide +kernel
/-- Row 22 is one on its own eight columns only. -/
theorem table_row22 : RowSpreads 22 := by decide +kernel
/-- Row 23 is one on its own eight columns only. -/
theorem table_row23 : RowSpreads 23 := by decide +kernel
/-- Row 24 is one on its own eight columns only. -/
theorem table_row24 : RowSpreads 24 := by decide +kernel
/-- Row 25 is one on its own eight columns only. -/
theorem table_row25 : RowSpreads 25 := by decide +kernel
/-- Row 26 is one on its own eight columns only. -/
theorem table_row26 : RowSpreads 26 := by decide +kernel
/-- Row 27 is one on its own eight columns only. -/
theorem table_row27 : RowSpreads 27 := by decide +kernel
/-- Row 28 is one on its own eight columns only. -/
theorem table_row28 : RowSpreads 28 := by decide +kernel
/-- Row 29 is one on its own eight columns only. -/
theorem table_row29 : RowSpreads 29 := by decide +kernel
/-- Row 30 is one on its own eight columns only. -/
theorem table_row30 : RowSpreads 30 := by decide +kernel
/-- Row 31 is one on its own eight columns only. -/
theorem table_row31 : RowSpreads 31 := by decide +kernel
/-- Row 32 is one on its own eight columns only. -/
theorem table_row32 : RowSpreads 32 := by decide +kernel
/-- Row 33 is one on its own eight columns only. -/
theorem table_row33 : RowSpreads 33 := by decide +kernel
/-- Row 34 is one on its own eight columns only. -/
theorem table_row34 : RowSpreads 34 := by decide +kernel
/-- Row 35 is one on its own eight columns only. -/
theorem table_row35 : RowSpreads 35 := by decide +kernel
/-- Row 36 is one on its own eight columns only. -/
theorem table_row36 : RowSpreads 36 := by decide +kernel
/-- Row 37 is one on its own eight columns only. -/
theorem table_row37 : RowSpreads 37 := by decide +kernel
/-- Row 38 is one on its own eight columns only. -/
theorem table_row38 : RowSpreads 38 := by decide +kernel
/-- Row 39 is one on its own eight columns only. -/
theorem table_row39 : RowSpreads 39 := by decide +kernel
/-- Row 40 is one on its own eight columns only. -/
theorem table_row40 : RowSpreads 40 := by decide +kernel
/-- Row 41 is one on its own eight columns only. -/
theorem table_row41 : RowSpreads 41 := by decide +kernel
/-- Row 42 is one on its own eight columns only. -/
theorem table_row42 : RowSpreads 42 := by decide +kernel
/-- Row 43 is one on its own eight columns only. -/
theorem table_row43 : RowSpreads 43 := by decide +kernel
/-- Row 44 is one on its own eight columns only. -/
theorem table_row44 : RowSpreads 44 := by decide +kernel
/-- Row 45 is one on its own eight columns only. -/
theorem table_row45 : RowSpreads 45 := by decide +kernel
/-- Row 46 is one on its own eight columns only. -/
theorem table_row46 : RowSpreads 46 := by decide +kernel
/-- Row 47 is one on its own eight columns only. -/
theorem table_row47 : RowSpreads 47 := by decide +kernel
/-- Row 48 is one on its own eight columns only. -/
theorem table_row48 : RowSpreads 48 := by decide +kernel
/-- Row 49 is one on its own eight columns only. -/
theorem table_row49 : RowSpreads 49 := by decide +kernel
/-- Row 50 is one on its own eight columns only. -/
theorem table_row50 : RowSpreads 50 := by decide +kernel
/-- Row 51 is one on its own eight columns only. -/
theorem table_row51 : RowSpreads 51 := by decide +kernel
/-- Row 52 is one on its own eight columns only. -/
theorem table_row52 : RowSpreads 52 := by decide +kernel
/-- Row 53 is one on its own eight columns only. -/
theorem table_row53 : RowSpreads 53 := by decide +kernel
/-- Row 54 is one on its own eight columns only. -/
theorem table_row54 : RowSpreads 54 := by decide +kernel
/-- Row 55 is one on its own eight columns only. -/
theorem table_row55 : RowSpreads 55 := by decide +kernel
/-- Row 56 is one on its own eight columns only. -/
theorem table_row56 : RowSpreads 56 := by decide +kernel
/-- Row 57 is one on its own eight columns only. -/
theorem table_row57 : RowSpreads 57 := by decide +kernel
/-- Row 58 is one on its own eight columns only. -/
theorem table_row58 : RowSpreads 58 := by decide +kernel
/-- Row 59 is one on its own eight columns only. -/
theorem table_row59 : RowSpreads 59 := by decide +kernel
/-- Row 60 is one on its own eight columns only. -/
theorem table_row60 : RowSpreads 60 := by decide +kernel
/-- Row 61 is one on its own eight columns only. -/
theorem table_row61 : RowSpreads 61 := by decide +kernel
/-- Row 62 is one on its own eight columns only. -/
theorem table_row62 : RowSpreads 62 := by decide +kernel
/-- Row 63 is one on its own eight columns only. -/
theorem table_row63 : RowSpreads 63 := by decide +kernel

end Cert.KernelIdeal
end
-- ==== Proof.KernelValue.lean ====
module

public import proofs.«01_k».proof.Proof.KernelPool
public import proofs.«01_k».proof.Proof.KernelRouter
public import proofs.«01_k».proof.Proof.KernelUp
public import proofs.«01_k».proof.Proof.UpTable
public import proofs.«01_k».proof.Proof.Gen.KernelIdeal.Frame
public import Idealize.ShloMosaic.Lib.StableHlo.ReadAt

/-!
The three launches and the host operations between them, joined: what the kernel's three result
arrays hold when it ends, as functions of its eleven arguments.
-/

@[expose] public section
set_option maxRecDepth 16384
noncomputable section
namespace Cert.KernelIdeal.Gen
open Idealize.ShloMosaic Idealize.ShloMosaic.TcCoe Idealize.SL.Sem Cert.Router

variable (m : (ℓ : Loc nD τ sig) → Buf (Elt Ideal) ℓ) (ρ : Dev nD → PrngReg) (c : Dev nD)

/-- The arguments in memory, read by coordinates. -/
def args : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The pooling launch leaves the means of the third argument. -/
theorem pooled_at (b : Fin 4) (k : Fin 96) (i j : Fin 64) :
    W2 m ρ c (Proc.devRef .tc main_v0) (ix4 b k i j) = pooled (args m c) b k i j := by
  have h := (W2_arr m ρ c 1).trans (final_pooled (V1 m ρ) (args m c) c fun b k y x =>
    congrFun (W1_args m ρ c main_arg2 (by decide)) (ix4 b k y x))
  exact congrFun h (ix4 b k i j)

/-- The descriptors, flattened. -/
theorem op_dl (b : Fin 4) (o : Fin 16) (n : Fin 4096) :
    V3 m ρ c main_v4 (ix3 b o n) = (args m c).dl b o (row n) (col n) := by
  unfold_abbrev_sides
  after_reads_at
  exact congrFun (W2_args m ρ c main_arg0 (by decide)) _

/-- The confidence, flattened. -/
theorem op_cf (b : Fin 4) (n : Fin 4096) :
    V3 m ρ c main_v5 (ix3 b 0 n) = (args m c).cf b (row n) (col n) := by
  unfold_abbrev_sides
  after_reads_at
  exact congrFun (W2_args m ρ c main_arg1 (by decide)) _

/-- The pooled context, flattened. -/
theorem op_pooled (b : Fin 4) (k : Fin 96) (n : Fin 4096) :
    V3 m ρ c main_v6 (ix3 b k n) = pooled (args m c) b k (row n) (col n) := by
  unfold_abbrev_sides
  after_reads_at
  exact pooled_at m ρ c _ _ _ _

/-- The context projection. -/
theorem op_wc (o : Fin 16) (k : Fin 96) : V3 m ρ c main_arg3 (ix2 o k) = (args m c).wc o k :=
  congrFun (W3_args m ρ c main_arg3 (by decide)) _

/-- Its bias, as a column. -/
theorem op_bc (o : Fin 16) : V3 m ρ c main_v7 (ix2 o 0) = (args m c).bc o := by
  unfold_abbrev_sides
  after_reads_at
  exact congrFun (W2_args m ρ c main_arg4 (by decide)) _

/-- The input projection. -/
theorem op_wi (o : Fin 32) (k : Fin 33) : V3 m ρ c main_arg5 (ix2 o k) = (args m c).wi o k :=
  congrFun (W3_args m ρ c main_arg5 (by decide)) _

/-- Its bias, as a column. -/
theorem op_bi (o : Fin 32) : V3 m ρ c main_v8 (ix2 o 0) = (args m c).bi o := by
  unfold_abbrev_sides
  after_reads_at
  exact congrFun (W2_args m ρ c main_arg6 (by decide)) _

/-- The taps, flattened. -/
theorem op_wd (o : Fin 32) (p q : Fin 3) :
    V3 m ρ c main_v3 (ix2 o ⟨3 * p.val + q.val, by omega⟩) = (args m c).wd o p q := by
  unfold_abbrev_sides
  after_reads_at
  refine (congrFun (W2_args m ρ c main_arg7 (by decide)) _).trans ?_
  have e1 : (⟨(3 * p.val + q.val) / 3, by omega⟩ : Fin 3) = p := Fin.ext (by dsimp only; omega)
  have e2 : (⟨(3 * p.val + q.val) % 3, by omega⟩ : Fin 3) = q := Fin.ext (by dsimp only; omega)
  rw [e1, e2]

/-- The taps' bias, as a column. -/
theorem op_bd (o : Fin 32) : V3 m ρ c main_v9 (ix2 o 0) = (args m c).bd o := by
  unfold_abbrev_sides
  after_reads_at
  exact congrFun (W2_args m ρ c main_arg8 (by decide)) _

/-- The output projection. -/
theorem op_wo (e : Fin 4) (o : Fin 32) : V3 m ρ c main_arg9 (ix2 e o) = (args m c).wo e o :=
  congrFun (W3_args m ρ c main_arg9 (by decide)) _

/-- Its bias, as a column. -/
theorem op_bo (e : Fin 4) : V3 m ρ c main_v10 (ix2 e 0) = (args m c).bo e := by
  unfold_abbrev_sides
  after_reads_at
  exact congrFun (W2_args m ρ c main_arg10 (by decide)) _

/-- The router launch leaves the routing weights of the arguments, pixels numbered row by row. -/
theorem weights_at (b e : Fin 4) (n : Fin 4096) :
    W4 m ρ c (Proc.devRef .tc main_v11) (ix3 b e n) = alpha (args m c) b e (row n) (col n) := by
  have h := (W4_arr m ρ c 11).trans (final_weights (V3 m ρ) (args m c) c (op_dl m ρ c) (op_cf m ρ c) (op_pooled m ρ c)
    (op_wc m ρ c) (op_bc m ρ c) (op_wi m ρ c) (op_bi m ρ c) (op_wd m ρ c) (op_bd m ρ c) (op_wo m ρ c) (op_bo m ρ c))
  exact congrFun h (ix3 b e n)

/-- The host folds the pixels back into rows and columns. -/
theorem coarse_at (b e : Fin 4) (i j : Fin 64) :
    V5 m ρ c main_v12 (ix4 b e i j) = alpha (args m c) b e i j := by
  unfold_abbrev_sides
  after_reads_at
  refine (weights_at m ρ c _ _ _).trans ?_
  have e1 : row ⟨i.val * 64 + j.val, by omega⟩ = i := Fin.ext (by dsimp only; omega)
  have e2 : col ⟨i.val * 64 + j.val, by omega⟩ = j := Fin.ext (by dsimp only; omega)
  rw [e1, e2]

/-- Every row of the table is one exactly on its own eight columns. -/
theorem table_row (k : Fin 64) : RowSpreads k.val := by
  obtain ⟨k, hk⟩ := k
  interval_cases k
  exacts [table_row0, table_row1, table_row2, table_row3, table_row4, table_row5, table_row6, table_row7, table_row8, table_row9, table_row10, table_row11, table_row12, table_row13, table_row14, table_row15, table_row16, table_row17, table_row18, table_row19, table_row20, table_row21, table_row22, table_row23, table_row24, table_row25, table_row26, table_row27, table_row28, table_row29, table_row30, table_row31, table_row32, table_row33, table_row34, table_row35, table_row36, table_row37, table_row38, table_row39, table_row40, table_row41, table_row42, table_row43, table_row44, table_row45, table_row46, table_row47, table_row48, table_row49, table_row50, table_row51, table_row52, table_row53, table_row54, table_row55, table_row56, table_row57, table_row58, table_row59, table_row60, table_row61, table_row62, table_row63]

/-- The table the last launch multiplies by. -/
theorem table_value (k : Fin 64) (x : Fin 512) :
    V5 m ρ c main_cst (ix2 k x) = if x.val / 8 = k.val then (1 : EReal) else 0 := by
  have h5 : W5 m ρ c (Proc.devRef .tc main_cst) = W1 m ρ c (Proc.devRef .tc main_cst) :=
    (W5_of m ρ c main_cst (by decide)).trans <| (W4_of m ρ c main_cst (by decide)).trans <|
      (W3_of m ρ c main_cst (by decide)).trans (W2_of m ρ c main_cst (by decide))
  refine (congrFun h5 _).trans ?_
  unfold_abbrev_sides
  after_reads_at
  have e : (S64x512.rowMajor (ix2 k x)).val = k.val * 512 + x.val := Shape.rowMajor_val_two _
  have e1 : lit0 (S64x512.rowMajor (ix2 k x)) = lit0t (S64x512.rowMajor (ix2 k x)).val := rfl
  rw [e1, e, table_row k x]
  split_ifs
  · simp [Ideal.ofBits, Ideal.ieee, -EReal.coe_mul]
    norm_num
  · simp [Ideal.ofBits, Ideal.ieee]

/-- The first result: the routing weights. -/
theorem result_coarse : W6 m ρ c (Proc.devRef .tc main_v12)
    = fun i : S4x4x64x64.Idx => alpha (args m c) (i 0) (i 1) (i 2) (i 3) := by
  rw [W6_of m ρ c main_v12 (by decide)]
  funext i
  idx_vars i
  exact coarse_at m ρ c _ _ _ _

/-- The second result: the routing weights, each repeated over an 8 × 8 square. -/
theorem result_fine : W6 m ρ c (Proc.devRef .tc main_v13_0)
    = fun i : S4x4x512x512.Idx => alpha (args m c) (i 0) (i 1) (eighth (i 2)) (eighth (i 3)) :=
  (W6_arr m ρ c 3).trans
    (final_fine (V5 m ρ) c (alpha (args m c)) (table_value m ρ c) (coarse_at m ρ c))

/-- The third result: the confidence, each entry repeated over an 8 × 8 square. -/
theorem result_confidence : W6 m ρ c (Proc.devRef .tc main_v13_1)
    = fun i : S4x1x512x512.Idx => (args m c).cf (i 0) (eighth (i 2)) (eighth (i 3)) :=
  (W6_arr m ρ c 4).trans
    (final_confidence (V5 m ρ) c (args m c).cf (table_value m ρ c) fun b i j =>
      congrFun (W5_args m ρ c main_arg1 (by decide)) (ix4 b 0 i j))

end Cert.KernelIdeal.Gen
end
-- ==== Proof.KernelRun.lean ====
module

public import proofs.«01_k».proof.Proof.KernelValue

/-!
The kernel's run: it ends, its three results hold the routing weights, the weights repeated over
8 × 8 squares and the confidence repeated likewise, and its arguments are as they were.
-/

@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Router

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution of the kernel ends with its three results at the values named here and its arguments unchanged. -/
theorem run : θ_run defs (onTc (τ := τ) (main (F := Ideal))) ⟨m, fun _ => 0, ρ⟩ (fun r => ∀ c : Dev nD,
      r.2.mem ((c.tc : Thread nD τ).loc main_v12)
        = (fun i : S4x4x64x64.Idx => alpha (args m c) (i 0) (i 1) (i 2) (i 3))
      ∧ r.2.mem ((c.tc : Thread nD τ).loc main_v13_0)
        = (fun i : S4x4x512x512.Idx => alpha (args m c) (i 0) (i 1) (eighth (i 2)) (eighth (i 3)))
      ∧ r.2.mem ((c.tc : Thread nD τ).loc main_v13_1)
        = (fun i : S4x1x512x512.Idx => (args m c).cf (i 0) (eighth (i 2)) (eighth (i 3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨(h c _ (mem_uc main_v12 (by decide))).trans (result_coarse m ρ c),
       (h c _ (mem_uc main_v13_0 (by decide))).trans (result_fine m ρ c),
       (h c _ (mem_uc main_v13_1 (by decide))).trans (result_confidence m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Gen
end
-- ==== Proof.RefHidden.lean ====
module

public import proofs.«01_k».proof.Proof.Gen.ReferenceIdeal.Run
public import proofs.«01_k».proof.Proof.Spec
public import Idealize.ShloMosaic.Lib.WordCmp
public import Idealize.ShloMosaic.Lib.IdealHost

/-!
The reference's hidden layer and its activation, at an index.
-/

@[expose] public section
set_option maxRecDepth 16384
noncomputable section
namespace Cert.ReferenceIdeal.Value
open Idealize.ShloMosaic Idealize.ShloMosaic.TcCoe Idealize.SL.Sem Cert.Router

variable (V0 : Valuation τ sig (Elt Ideal))

/-- The arguments in memory, read by coordinates. -/
def args : Args :=
  argsOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10))

/-- The fine indices reduced onto a coarse one are those of its 8 × 8 window. -/
theorem window_fiber (b : Fin 4) (k : Fin 96) (i j : Fin 64) (y : S4x96x64x8x64x8.Idx) :
    Gen.reducesTo_S4x96x64x8x64x8_S4x96x64x64_d3_5.drop y = ix4 b k i j ↔ ∃ w : Fin 8 × Fin 8, ix6 b k i w.2 j w.1 = y := by
  constructor
  · intro e
    refine ⟨(y 5, y 3), funext fun a => Fin.ext ?_⟩
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => rfl
  · rintro ⟨w, rfl⟩
    refine funext fun a => Fin.ext ?_
    match a with
    | ⟨0, _⟩ => rfl
    | ⟨1, _⟩ => rfl
    | ⟨2, _⟩ => rfl
    | ⟨3, _⟩ => rfl

/-- The sum over the fine indices of a coarse one is the double sum over its window. -/
theorem window_sum (v : S4x96x64x8x64x8.Idx → EReal) (b : Fin 4) (k : Fin 96) (i j : Fin 64) :
    Ideal.hostReduceAdd Gen.reducesTo_S4x96x64x8x64x8_S4x96x64x64_d3_5 v 0 (ix4 b k i j)
      = ∑ q : Fin 8, ∑ p : Fin 8, v (ix6 b k i p j q) := by
  refine (zero_add _).trans ((Finset.sum_filter_eq_sum_of_fiber _ (fun w : Fin 8 × Fin 8 => ix6 b k i w.2 j w.1)
    (fun _ _ e => Prod.ext (congrFun e 5) (congrFun e 3)) (window_fiber b k i j) v).trans ?_)
  simp only [Fintype.sum_prod_type]

/-- Dividing by sixty-four is multiplying by its reciprocal. -/
theorem div_window (s : EReal) : Ideal.div s (lit 0x42800000#32) = s * lit 0x3C800000#32 := by
  have e1 : lit 0x42800000#32 = ((64 : ℝ) : EReal) := by
    simp [lit, Ideal.ofBits, Ideal.ieee, -EReal.coe_mul]
    norm_num
  have e2 : lit 0x3C800000#32 = (((64 : ℝ)⁻¹ : ℝ) : EReal) := by
    simp [lit, Ideal.ofBits, Ideal.ieee, -EReal.coe_mul]
    norm_num
  rw [e1, e2, EReal.coe_inv, Ideal.div, if_neg (by norm_num)]

/-- The reference's pooled context is the mean over the window. -/
theorem mean_at (b : Fin 4) (k : Fin 96) (i j : Fin 64) :
    Ideal.div (Ideal.hostReduceAdd Gen.reducesTo_S4x96x64x8x64x8_S4x96x64x64_d3_5
        (shapeCast S4x96x64x8x64x8 (V0 (Proc.devRef .tc main_arg2)) Gen.shapeCasts_S4x96x512x512_S4x96x64x8x64x8) 0 (ix4 b k i j))
      (Ideal.ofBits FTy.f32 1115684864#32) = pooled (args V0) b k i j := by
  rw [window_sum]
  refine (div_window _).trans (congrArg (· * _) (Finset.sum_congr rfl fun q _ => Finset.sum_congr rfl fun p _ => ?_))
  pointwise
  have e1 : (⟨i.val * 8 + p.val, by omega⟩ : Fin 512) = ⟨8 * i.val + p.val, by omega⟩ := Fin.ext (by dsimp only; omega)
  have e2 : (⟨j.val * 8 + q.val, by omega⟩ : Fin 512) = ⟨8 * j.val + q.val, by omega⟩ := Fin.ext (by dsimp only; omega)
  rw [e1, e2]; rfl

/-- The reference's hidden layer. -/
theorem hidden_at (b : Fin 4) (o : Fin 32) (i j : Fin 64) :
    res_main_v14 (F := Ideal) V0 (ix4 b o i j) = hid (args V0) b o i j := by
  pointwise [res_main_v14]
  simp only [mean_at]
  refine congrArg (fun z : EReal => z + (args V0).bi o) (Finset.sum_congr rfl fun x _ =>
    congrArg (fun z : EReal => (args V0).wi o x * z) ?_)
  unfold rin
  by_cases h1 : x.val < 16
  · rw [dif_pos h1, dif_pos h1]; rfl
  · rw [dif_neg h1, dif_neg h1]
    by_cases h2 : x.val < 17
    · rw [dif_pos (by omega), dif_pos h2]
      have e : (⟨x.val - 16, by omega⟩ : Fin 1) = 0 := Subsingleton.elim _ _
      rw [e]; rfl
    · rw [dif_neg (by omega), dif_neg h2]
      have e : x.val - 16 - 1 = x.val - 17 := by omega
      simp only [e]; rfl

/-- The argument of the reference's error function. -/
theorem arg_at (b : Fin 4) (o : Fin 32) (i j : Fin 64) :
    res_main_v19 (F := Ideal) V0 (ix4 b o i j) = -hid (args V0) b o i j * lit 0x3F3504F3#32 := by
  rw [← hidden_at]
  pointwise [res_main_v19]

/-- The integer zero as a float. -/
theorem zero_word : FloatOps.sitofp (F := Ideal) FTy.f32 0#32 = (0 : EReal) := by
  show ((((0#32 : BitVec 32).toInt : ℝ)) : EReal) = 0
  simp

/-- The reference's tail branch. -/
theorem tail_at (b : Fin 4) (o : Fin 32) (i j : Fin 64) :
    res_main_v82 (F := Ideal) V0 (ix4 b o i j) = tail (res_main_v19 (F := Ideal) V0 (ix4 b o i j)) := by
  pointwise [res_main_v82, res_main_v20, res_main_v21, res_main_v23, res_main_v49]
  rw [zero_word]
  rfl

/-- The reference's activated hidden layer, with its border of zeros. -/
theorem padded_at (b : Fin 4) (o : Fin 32) (u v : Fin 66) :
    res_main_v114 (F := Ideal) V0 (ix4 b o u v) = act (args V0) b o u.val v.val := by
  pointwise [res_main_v114, res_main_v20, res_main_v21]
  unfold act
  by_cases h : (1 ≤ u.val ∧ u.val < 65) ∧ 1 ≤ v.val ∧ v.val < 65
  · rw [dif_pos h, dif_pos (by omega), tail_at, arg_at, hidden_at]
    rfl
  · rw [dif_neg h, dif_neg (by omega), zero_word]

end Cert.ReferenceIdeal.Value
end
-- ==== Proof.RefLogit.lean ====
module

public import proofs.«01_k».proof.Proof.RefHidden

/-!
The reference's depthwise convolution and the experts' scores, at an index.
-/

@[expose] public section
set_option maxRecDepth 16384
noncomputable section
namespace Cert.ReferenceIdeal.Value
open Idealize.ShloMosaic Idealize.ShloMosaic.TcCoe Idealize.SL.Sem Cert.Router

variable (V0 : Valuation τ sig (Elt Ideal))

/-- The reference's scores before their bias. -/
theorem scores_at (e b : Fin 4) (i j : Fin 64) :
    res_main_v182 (F := Ideal) V0 (ix4 e b i j) = ∑ o : Fin 32, (args V0).wo e o * conv (args V0) b o i j := by
  pointwise [res_main_v182]
  simp only [padded_at]
  show (_ : EReal) = _
  refine Finset.sum_congr rfl fun o _ => ?_
  refine congrArg (fun z : EReal => (args V0).wo e o * z) ?_
  unfold conv
  rw [Nat.add_comm i.val 1, Nat.add_comm i.val 2, Nat.add_comm j.val 1, Nat.add_comm j.val 2]
  rfl

/-- The reference's scores, experts last. -/
theorem logit_at (b : Fin 4) (i j : Fin 64) (e : Fin 4) :
    res_main_v187 (F := Ideal) V0 (ix4 b i j e) = logit (args V0) b e i j := by
  pointwise [res_main_v187]
  rw [scores_at]
  rfl

end Cert.ReferenceIdeal.Value
end
-- ==== Proof.RefTopTwo.lean ====
module

public import proofs.«01_k».proof.Proof.Spec
public import Idealize.ShloMosaic.Lib.SortFacts

/-!
The first two positions of a stable descending sort of four scores are the two chosen scores, and
the mask and the maximum over the four, in scalars.
-/

@[expose] public section
set_option maxRecDepth 16384
noncomputable section
namespace Cert.Router
open Idealize.ShloMosaic

/-- The first two positions of a stable descending sort of four ranks, by their count of better ones. -/
theorem sorted_ranks : ∀ a b c d e : Fin 4,
    ((sortedFrom (fun i j : Fin 4 => decide (![a, b, c, d] j < ![a, b, c, d] i)) 0 = e
        ∨ sortedFrom (fun i j : Fin 4 => decide (![a, b, c, d] j < ![a, b, c, d] i)) 1 = e)
      ↔ (Finset.univ.filter fun j : Fin 4 => ![a, b, c, d] e < ![a, b, c, d] j ∨ (![a, b, c, d] e = ![a, b, c, d] j ∧ j < e)).card < 2) := by
  decide +kernel

/-- Four scores have ranks below four that order them alike. -/
theorem ranks (l : Fin 4 → EReal) : ∃ g : Fin 4 → Fin 4, ∀ i j, g i < g j ↔ l i < l j := by
  have key : ∀ i : Fin 4, (Finset.univ.filter fun k => l k < l i).card < 4 := fun i => by
    have h : (Finset.univ.filter fun k => l k < l i) ⊂ Finset.univ := by
      refine Finset.ssubset_univ_iff.mpr fun h => ?_
      have := h ▸ Finset.mem_univ i
      simp at this
    simpa using Finset.card_lt_card h
  refine ⟨fun i => ⟨_, key i⟩, fun i j => ?_⟩
  rw [Fin.mk_lt_mk]
  constructor
  · intro h
    by_contra hn
    rw [not_lt] at hn
    refine absurd h (not_lt.mpr (Finset.card_le_card fun k hk => ?_))
    rw [Finset.mem_filter] at hk ⊢
    exact ⟨hk.1, hk.2.trans_le hn⟩
  · intro h
    refine Finset.card_lt_card ⟨fun k hk => ?_, fun hs => ?_⟩
    · rw [Finset.mem_filter] at hk ⊢
      exact ⟨hk.1, hk.2.trans h⟩
    · have := hs (Finset.mem_filter.mpr ⟨Finset.mem_univ i, h⟩)
      simp at this

/-- The first two positions of the stable descending sort are the chosen scores. -/
theorem sorted_two (l : Fin 4 → EReal) (e : Fin 4) :
    (sortedFrom (fun i j : Fin 4 => decide (l j < l i)) 0 = e ∨ sortedFrom (fun i j : Fin 4 => decide (l j < l i)) 1 = e) ↔ chosen l e := by
  obtain ⟨g, hg⟩ := ranks l
  have heq : ∀ i j, l i = l j ↔ g i = g j := fun i j => by
    constructor
    · intro h
      rcases lt_trichotomy (g i) (g j) with h' | h' | h'
      · exact absurd h (ne_of_lt ((hg i j).mp h'))
      · exact h'
      · exact absurd h.symm (ne_of_lt ((hg j i).mp h'))
    · intro h
      rcases lt_trichotomy (l i) (l j) with h' | h' | h'
      · exact absurd h (ne_of_lt ((hg i j).mpr h'))
      · exact h'
      · exact absurd h.symm (ne_of_lt ((hg j i).mpr h'))
  have hv : ![g 0, g 1, g 2, g 3] = g := by funext i; fin_cases i <;> rfl
  have := sorted_ranks (g 0) (g 1) (g 2) (g 3) e
  rw [hv] at this
  unfold chosen
  simp only [beats, heq, ← hg]
  exact this

/-- The pattern of minus infinity denotes it. -/
theorem minus_infinity : lit 0xFF800000#32 = ⊥ := by
  simp [lit, Ideal.ofBits, Ideal.ieee]

/-- Some score of the largest value is chosen. -/
theorem exists_chosen_top (l : Fin 4 → EReal) : ∃ i, chosen l i ∧ l i = top l := by
  have hs := sorted_two l (sortedFrom (fun i j : Fin 4 => decide (l j < l i)) 0)
  refine ⟨_, hs.mp (Or.inl rfl), ?_⟩
  have hm : ∀ j, l j ≤ l (sortedFrom (fun i j : Fin 4 => decide (l j < l i)) 0) := by
    intro j
    obtain ⟨k, hk⟩ := sortedFrom_surjective (fun i j : Fin 4 => decide (l j < l i)) j
    rcases Nat.eq_zero_or_pos k.val with h0 | h0
    · have : k = 0 := Fin.ext h0
      rw [← hk, this]
    · have h := sortedFrom_noInversion (fun i j : Fin 4 => decide (l j < l i)) (fun i j : Fin 4 => decide (l j < l i))
        (fun a b h => by simpa using le_of_lt (of_decide_eq_true h)) (fun a b h => h)
        (fun a b c h h' => by
          have h1 := of_decide_eq_false h
          have h2 := of_decide_eq_false h'
          exact decide_eq_false (not_lt.mpr ((not_lt.mp h1).trans (not_lt.mp h2)))) 0 k h0
      rw [hk] at h
      exact not_lt.mp (of_decide_eq_false h)
  refine le_antisymm ?_ (max_le (max_le (max_le (hm 0) (hm 1)) (hm 2)) (hm 3))
  generalize sortedFrom (fun i j : Fin 4 => decide (l j < l i)) 0 = i
  unfold top
  fin_cases i <;> simp

/-- The largest of the masked scores is the largest of the scores. -/
theorem masked_top (l v : Fin 4 → EReal) (hv : ∀ i, v i = if chosen l i then l i else ⊥) : top v = top l := by
  have hle : ∀ i, v i ≤ l i := fun i => by rw [hv]; split <;> simp
  refine le_antisymm (max_le_max (max_le_max (max_le_max (hle 0) (hle 1)) (hle 2)) (hle 3)) ?_
  obtain ⟨i, hc, hi⟩ := exists_chosen_top l
  rw [← hi]
  have : v i = l i := by rw [hv, if_pos hc]
  rw [← this]
  unfold top
  fin_cases i <;> simp

/-- A maximum over the four, from minus infinity up. -/
theorem fold_top (v : Fin 4 → EReal) : max ⊥ ((Finset.univ : Finset (Fin 4)).fold max ⊥ v) = top v := by
  rw [show (Finset.univ : Finset (Fin 4)) = {0, 1, 2, 3} from rfl]
  simp [Finset.fold_insert, top, max_assoc]

/-- The exponential of a masked score less the maximum is the weight. -/
theorem masked_weight (l v : Fin 4 → EReal) (hv : ∀ i, v i = if chosen l i then l i else ⊥) (i : Fin 4) :
    Ideal.exp (v i - top v) = weight l i := by
  rw [masked_top l v hv, hv]
  unfold weight
  split
  · rfl
  · rw [EReal.bot_sub]; rfl

end Cert.Router
end
-- ==== Proof.RefRoute.lean ====
module

public import proofs.«01_k».proof.Proof.RefLogit
public import proofs.«01_k».proof.Proof.RefTopTwo

/-!
The reference's mask of the two best scores, its softmax and its three results, at an index.
-/

@[expose] public section
set_option maxRecDepth 16384
noncomputable section
namespace Cert.ReferenceIdeal.Value
open Idealize.ShloMosaic Idealize.ShloMosaic.TcCoe Idealize.SL.Sem Cert.Router Cert.ReferenceIdeal.Gen

variable (V0 : Valuation τ sig (Elt Ideal))

/-- One comparison of the sort: the first score is larger. -/
theorem greater (u v : EReal) : (FloatOps.cmpfTotal (F := Ideal) (φ := .f32) .gt u v == 1#1) = decide (v < u) := by
  show (BitVec.ofBool (decide (v < u)) == 1#1) = decide (v < u)
  cases decide (v < u) <;> rfl

/-- The index word the reference's top-2 puts at place `x`: the position the stable descending sort reads there. -/
theorem top_index (X : FVec Ideal S4x64x64x4 .f32) (h : S4x64x64x4.Slices (fun _ => 0) S4x64x64x2) (b : Fin 4) (i j : Fin 64) (x : Fin 2) :
    (Host.topK S4x64x64x2 3 (FloatOps.cmpfTotal (F := Ideal) (φ := .f32) .gt) X h).2 (ix4 b i j x)
      = BitVec.ofNat 32 (sortedFrom (fun k k' : Fin 4 => decide ((X (ix4 b i j k') : EReal) < X (ix4 b i j k))) ⟨x.val, by omega⟩).val := by
  have hal : ∀ (y : S4x64x64x4.Idx) (k : Fin 4), y 0 = b → y 1 = i → y 2 = j → y.along 3 k = ix4 b i j k := by
    intro y k h0 h1 h2
    funext a
    fin_cases a
    · exact h0
    · exact h1
    · exact h2
    · rfl
  have key : ∀ y : S4x64x64x4.Idx, y 0 = b → y 1 = i → y 2 = j → y 3 = (⟨x.val, by omega⟩ : Fin 4) →
      (Host.sort2 S4x64x64x4 3 (fun l r => FloatOps.cmpfTotal (F := Ideal) (φ := .f32) .gt l.1 r.1) X
        (fun i : S4x64x64x4.Idx => if hd : 3 < S4x64x64x4.rank then iotaInDim S4x64x64x4 32 ⟨3, hd⟩ i else 0#32)).2 y
      = BitVec.ofNat 32 (sortedFrom (fun k k' : Fin 4 => decide ((X (ix4 b i j k') : EReal) < X (ix4 b i j k))) ⟨x.val, by omega⟩).val := by
    intro y h0 h1 h2 h3
    unfold Host.sort2
    simp only [greater]
    rw [dif_pos (by decide)]
    show (if hd : 3 < S4x64x64x4.rank then iotaInDim S4x64x64x4 32 ⟨3, hd⟩ (y.along 3 (sortedFrom (fun k k' : Fin 4 =>
      decide ((X (y.along 3 k') : EReal) < X (y.along 3 k))) (y 3))) else 0#32) = _
    rw [dif_pos (by decide)]
    simp only [hal y _ h0 h1 h2, h3]
    rfl
  exact key _ (Fin.ext (Nat.zero_add _)) (Fin.ext (Nat.zero_add _)) (Fin.ext (Nat.zero_add _)) (Fin.ext (Nat.zero_add _))

/-- The number of flags raised is positive when one is. -/
theorem some_flag (u v w : BitVec 32) :
    ((0 : EReal) < FloatOps.uitofp (F := Ideal) .f32 (IntOp.cmpi .eq u w) + FloatOps.uitofp (F := Ideal) .f32 (IntOp.cmpi .eq v w))
      ↔ (u = w ∨ v = w) := by
  have h : ∀ p : BitVec 32, (FloatOps.uitofp (F := Ideal) .f32 (IntOp.cmpi .eq p w) : EReal) = if p = w then 1 else 0 := by
    intro p
    show ((((IntOp.cmpi .eq p w).toNat : ℝ)) : EReal) = _
    by_cases hp : p = w <;> simp [IntOp.cmpi, hp]
  rw [show ((FloatOps.uitofp (F := Ideal) .f32 (IntOp.cmpi .eq u w) : Ideal .f32) + FloatOps.uitofp (F := Ideal) .f32 (IntOp.cmpi .eq v w))
    = ((FloatOps.uitofp (F := Ideal) .f32 (IntOp.cmpi .eq u w) : EReal) + (FloatOps.uitofp (F := Ideal) .f32 (IntOp.cmpi .eq v w) : EReal)) from rfl, h, h]
  by_cases hu : u = w <;> by_cases hv : v = w <;> simp [hu, hv]

/-- Words of positions below four are equal when the positions are. -/
theorem word_inj : ∀ p q : Fin 4, BitVec.ofNat 32 p.val = BitVec.ofNat 32 q.val ↔ p = q := by decide

/-- The reference's masked scores: the chosen score, or minus infinity. -/
theorem masked_at (b : Fin 4) (i j : Fin 64) (e : Fin 4) :
    res_main_v192 (F := Ideal) V0 (ix4 b i j e)
      = (if chosen (fun e => logit (args V0) b e i j) e then logit (args V0) b e i j else ⊥ : EReal) := by
  pointwise [res_main_v192]
  refine if_congr (Iff.trans ?_ (sorted_two (fun e => logit (args V0) b e i j) e)) (logit_at V0 b i j e) minus_infinity
  rw [Fin.sum_univ_two, some_flag, top_index, top_index, word_inj, word_inj]
  simp only [logit_at]
  exact Iff.rfl

/-- The reference's unnormalized weights. -/
theorem weight_at (b : Fin 4) (i j : Fin 64) (e : Fin 4) :
    res_main_v199 (F := Ideal) V0 (ix4 b i j e) = weight (fun e => logit (args V0) b e i j) e := by
  pointwise [res_main_v199]
  rw [show Ideal.ofBits .f32 4286578688#32 = (⊥ : EReal) from minus_infinity]
  refine Eq.trans ?_ (masked_weight (fun e => logit (args V0) b e i j) (fun e => res_main_v192 (F := Ideal) V0 (ix4 b i j e)) (fun e => masked_at V0 b i j e) e)
  refine congrArg (fun z : EReal => Ideal.exp (@HSub.hSub EReal EReal EReal instHSub (res_main_v192 (F := Ideal) V0 (ix4 b i j e)) z)) ?_
  refine Eq.trans (congrArg (max (⊥ : EReal)) ?_) (fold_top (fun e => res_main_v192 (F := Ideal) V0 (ix4 b i j e)))
  exact Gen.reducesTo_S4x64x64x4_S4x64x64_d3.fold_fiber_r4_a3 (ix3 b i j) (max : EReal → EReal → EReal) ⊥ (res_main_v192 (F := Ideal) V0)

/-- The reference's weights, experts last, normalized and turned to experts second: its first result. -/
theorem coarse_at (b e : Fin 4) (i j : Fin 64) :
    (transpose S4x4x64x64 [0, 3, 1, 2] (Host.divf (res_main_v199 (F := Ideal) V0) (broadcastInDim S4x64x64x4 ![0, 1, 2, 3] bcast_S4x64x64x1_S4x64x64x4_0_1_2_3 (broadcastInDim S4x64x64x1 ![0, 1, 2] bcast_S4x64x64_S4x64x64x1_0_1_2 (Host.reduceAdd (res_main_v199 (F := Ideal) V0) (constant S_ .f32 0x00000000#32) reducesTo_S4x64x64x4_S4x64x64_d3 h_S_)))) transposes_S4x64x64x4_S4x4x64x64_0_3_1_2 : FVec Ideal S4x4x64x64 .f32) (ix4 b e i j)
      = alpha (args V0) b e i j := by
  pointwise
  simp only [weight_at]
  rw [Fin.sum_univ_four]
  rfl

/-- Eight copies of every row and of every column: a result on the fine grid reads the coarse one at the eighths. -/
theorem repeated_at (Y : FVec Ideal S4x4x64x64 .f32) (b e : Fin 4) (r s : Fin 512) :
    (shapeCast S4x4x512x512 (broadcastInDim S4x4x512x64x8 ![0, 1, 2, 3] bcast_S4x4x512x64_S4x4x512x64x8_0_1_2_3 (shapeCast S4x4x512x64 (broadcastInDim S4x4x64x8x64 ![0, 1, 2, 4] bcast_S4x4x64x64_S4x4x64x8x64_0_1_2_4 Y) shapeCasts_S4x4x64x8x64_S4x4x512x64)) shapeCasts_S4x4x512x64x8_S4x4x512x512 : FVec Ideal S4x4x512x512 .f32) (ix4 b e r s)
      = Y (ix4 b e ⟨r.val / 8, by omega⟩ ⟨s.val / 8, by omega⟩) := by
  pointwise

/-- The same for the one-channel result. -/
theorem repeated_one_at (Y : FVec Ideal S4x1x64x64 .f32) (b : Fin 4) (e : Fin 1) (r s : Fin 512) :
    (shapeCast S4x1x512x512 (broadcastInDim S4x1x512x64x8 ![0, 1, 2, 3] bcast_S4x1x512x64_S4x1x512x64x8_0_1_2_3 (shapeCast S4x1x512x64 (broadcastInDim S4x1x64x8x64 ![0, 1, 2, 4] bcast_S4x1x64x64_S4x1x64x8x64_0_1_2_4 Y) shapeCasts_S4x1x64x8x64_S4x1x512x64)) shapeCasts_S4x1x512x64x8_S4x1x512x512 : FVec Ideal S4x1x512x512 .f32) (ix4 b e r s)
      = Y (ix4 b 0 ⟨r.val / 8, by omega⟩ ⟨s.val / 8, by omega⟩) := by
  pointwise

end Cert.ReferenceIdeal.Value
end
-- ==== Proof.RefRun.lean ====
module

public import proofs.«01_k».proof.Proof.RefRoute
public import proofs.«01_k».proof.Defs
public import Idealize.ShloMosaic.Lib.Claim
public import Idealize.ShloMosaic.Lib.Quiescent

/-!
The reference's run: it ends, its three results hold the routing weights, the weights repeated over
8 × 8 squares and the confidence repeated likewise, and its arguments are as they were.
-/

@[expose] public section
set_option maxRecDepth 16384
noncomputable section
namespace Cert.ReferenceIdeal.Value
open Idealize.ShloMosaic Idealize.ShloMosaic.TcCoe Idealize.SL.Sem Idealize.ShloMosaic.StableHlo Cert.Router Cert.ReferenceIdeal.Gen

/-- The coarse row or column a fine one belongs to. -/
abbrev eighth (x : Fin 512) : Fin 64 := ⟨x.val / 8, by omega⟩

/-- The arguments of a memory on one device, read by coordinates. -/
abbrev argsAt (m : (ℓ : Loc nD τ sig) → Buf (Elt Ideal) ℓ) (c : Dev nD) : Args := args (launchContents m c)

/-- Every execution of the reference ends with its three results at the values named here and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v204)
        = (fun i : S4x4x64x64.Idx => alpha (argsAt m c) (i 0) (i 1) (i 2) (i 3))
      ∧ r.2.mem ((c.tc : Thread nD τ).loc main_v208)
        = (fun i : S4x4x512x512.Idx => alpha (argsAt m c) (i 0) (i 1) (eighth (i 2)) (eighth (i 3)))
      ∧ r.2.mem ((c.tc : Thread nD τ).loc main_v212)
        = (fun i : S4x1x512x512.Idx => (argsAt m c).cf (i 0) (eighth (i 2)) (eighth (i 3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine θ_run_mono (run (F := Ideal) m ρ) fun r h c => ?_
  obtain ⟨h0, h1, h2, hargs⟩ := h c
  refine ⟨h0.trans ?_, h1.trans ?_, h2.trans ?_, hargs⟩
  · funext i
    rw [eq_ix4 i]
    exact coarse_at (launchContents m c) (i 0) (i 1) (i 2) (i 3)
  · funext i
    rw [eq_ix4 i]
    exact (repeated_at _ (i 0) (i 1) (i 2) (i 3)).trans (coarse_at (launchContents m c) (i 0) (i 1) _ _)
  · funext i
    rw [eq_ix4 i]
    exact repeated_one_at _ (i 0) (i 1) (i 2) (i 3)

/-- The reference runs, leaves its arguments alone and ends with every counter at zero. -/
theorem frame : Cert.quiescent_ReferenceIdeal (hReferenceIdeal := Gen.facts) := by
  intro m g _
  exact θ_run_mono (run (F := Ideal) m g) fun r h => ⟨fun c => (h c).2.2.2, sem_eq_zero_of_no_sems (by decide) r.2⟩

end Cert.ReferenceIdeal.Value
end
-- ==== Proof.lean ====
/- The proof of the certificate's claim: the three frames, the idealization (no operation rewritten) and the
   equality of the kernel's and the reference's results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import Idealize.ShloMosaic.Adequacy
public import Idealize.ShloMosaic.Init

@[expose] public section

noncomputable section

namespace Cert.Proof

open Idealize.ShloMosaic Idealize.SL.Sem

/-- Memories that agree on the arguments hold the same arguments, read by coordinates. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.argsAt m' c = Cert.KernelIdeal.Gen.args m c := by
  obtain ⟨h0, h1, h2, h3, h4, h5, h6, h7, h8, h9, h10⟩ := h
  show Cert.Router.argsOf (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10)) = _
  rw [h0, h1, h2, h3, h4, h5, h6, h7, h8, h9, h10]
  rfl

/-- The idealized kernel and the idealized reference end with the same three results. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, _, Cert.KernelIdeal.Gen.run m g, ?_⟩
  refine θ_run_mono (Cert.ReferenceIdeal.Value.run_values m' g') fun r h c => ?_
  obtain ⟨h0, h1, h2, hargs⟩ := h c
  rw [args_eq m m' c (hagree c)] at h0 h1 h2
  exact ⟨h0, h1, h2, hargs⟩

/-- The certificate's claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    Cert.ReferenceIdeal.Value.frame, trivial, algebraic⟩

end Cert.Proof

end
